-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def Pre_Kernel2 [hPre_used_blocks : Cert.Pre_used_blocks.Facts] (m : (ℓ : Loc Cert.Kernel2.nD Cert.Kernel2.τ Cert.Kernel2.sig) → Buf (Elt Bits) ℓ) : Prop :=
  ∀ c : Dev Cert.Kernel2.nD,
    (Cert.Pre_used_blocks.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_used_blocks.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.1 = (fun _ => 1#1)
    ∧ (Cert.Pre_used_blocks.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2 = (fun _ => 1#1)

def Pre_Kernel2Ideal [hPre_used_blocks : Cert.Pre_used_blocks.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_used_blocks.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_used_blocks.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_used_blocks.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_used_blocks [hPre_used_blocks : Cert.Pre_used_blocks.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_used_blocks.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_used_blocks.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_used_blocks.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] [hPre_used_blocks : Cert.Pre_used_blocks.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_used_blocks : Cert.Pre_used_blocks.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_used_blocks [hReference2Ideal : Cert.Reference2Ideal.Facts] [hPre_used_blocks : Cert.Pre_used_blocks.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_used_blocks m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_on_rows_used [hKernel2Ideal : Cert.Kernel2Ideal.Facts] [hReference2Ideal : Cert.Reference2Ideal.Facts] [hPre_used_blocks : Cert.Pre_used_blocks.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![917504, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v3) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![917504, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v39) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_and_keys : Cert.Pre_finite_queries_and_keys.Facts) (hPre_used_blocks : Cert.Pre_used_blocks.Facts) (hOn_rows_used : Cert.On_rows_used.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2) (hPre_used_blocks := hPre_used_blocks)
    ∧ quiescent_Kernel2Ideal (hKernel2Ideal := hKernel2Ideal) (hPre_used_blocks := hPre_used_blocks)
    ∧ quiescent_Reference2Ideal (hReference2Ideal := hReference2Ideal)
    ∧ quiescent_Reference2Ideal_pre_used_blocks (hReference2Ideal := hReference2Ideal) (hPre_used_blocks := hPre_used_blocks)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal_on_rows_used (hKernel2Ideal := hKernel2Ideal) (hReference2Ideal := hReference2Ideal) (hPre_used_blocks := hPre_used_blocks) (hOn_rows_used := hOn_rows_used)
    ∧ preserves_Kernel3_Kernel3Ideal
    ∧ algebraic_Kernel3Ideal_Reference3Ideal (hKernel3Ideal := hKernel3Ideal) (hReference3Ideal := hReference3Ideal)
-- ==== On_rows_used.lean ====
abbrev S448 : Shape := ⟨1, ![448]⟩
abbrev S1 : Shape := ⟨1, ![1]⟩
abbrev S917504x1024 : Shape := ⟨2, ![917504, 1024]⟩
abbrev S1x64x1024x256 : Shape := ⟨4, ![1, 64, 1024, 256]⟩
abbrev S1x64x256x1024 : Shape := ⟨4, ![1, 64, 256, 1024]⟩
abbrev S917504 : Shape := ⟨1, ![917504]⟩
abbrev S_ : Shape := ⟨0, ![]⟩
abbrev S917504x1 : Shape := ⟨2, ![917504, 1]⟩

class Facts : Prop where
  shapeCasts_S1_S_ : S1.ShapeCasts S_
  bcast_S_S917504 : S_.BroadcastsInDim S917504 (![] : Fin 0 → Fin S917504.rank)
  bcast_S917504_S917504x1_0 : S917504.BroadcastsInDim S917504x1 (![0] : Fin 1 → Fin S917504x1.rank)
  bcast_S917504x1_S917504x1024_0_1 : S917504x1.BroadcastsInDim S917504x1024 (![0, 1] : Fin 2 → Fin S917504x1024.rank)

variable [Facts]

def fn {F : FTy → Type} [FloatOps F] (main_arg0 : IVec S448 32) (main_arg1 : IVec S448 32) (main_arg2 : IVec S1 32) (main_arg3 : FVec F S917504x1024 .bf16) (main_arg4 : FVec F S1x64x1024x256 .f32) (main_arg5 : FVec F S1x64x1024x256 .f32) (main_arg6 : FVec F S1x64x256x1024 .f32) : IVec S917504x1024 1 :=
  let main_v0 : IVec S917504 32 := iotaInDim S917504 32 0
  let main_v1 : IVec S_ 32 := shapeCast S_ main_arg2 shapeCasts_S1_S_
  let main_c : IVec S_ 32 := constantI S_ 32 2048#32
  let main_v2 : IVec S_ 32 := muli main_v1 main_c
  let main_v3 : IVec S917504 32 := broadcastInDim S917504 ![] bcast_S_S917504 main_v2
  let main_v4 : IVec S917504 1 := cmpi .slt main_v0 main_v3
  let main_v5 : IVec S917504x1 1 := broadcastInDim S917504x1 ![0] bcast_S917504_S917504x1_0 main_v4
  let main_v6 : IVec S917504x1024 1 := broadcastInDim S917504x1024 ![0, 1] bcast_S917504x1_S917504x1024_0_1 main_v5
  main_v6
-- ==== Pre_finite_queries_and_keys.lean ====
abbrev S32x2048x512 : Shape := ⟨3, ![32, 2048, 512]⟩
abbrev S32x2304x512 : Shape := ⟨3, ![32, 2304, 512]⟩
abbrev S32x2304x128 : Shape := ⟨3, ![32, 2304, 128]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S32x2048x512 : S_.BroadcastsInDim S32x2048x512 (![] : Fin 0 → Fin S32x2048x512.rank)
  bcast_S_S32x2304x512 : S_.BroadcastsInDim S32x2304x512 (![] : Fin 0 → Fin S32x2304x512.rank)
  bcast_S_S32x2304x128 : S_.BroadcastsInDim S32x2304x128 (![] : Fin 0 → Fin S32x2304x128.rank)

variable [Facts]

def fn {F : FTy → Type} [FloatOps F] (main_arg0 : FVec F S32x2048x512 .bf16) (main_arg1 : FVec F S32x2048x512 .bf16) (main_arg2 : FVec F S32x2304x512 .bf16) (main_arg3 : FVec F S32x2304x512 .bf16) (main_arg4 : FVec F S32x2304x128 .bf16) (main_arg5 : FVec F S32x2304x128 .bf16) (main_arg6 : FVec F S1x64 .f32) (main_arg7 : FVec F S1x64 .f32) (main_arg8 : FVec F S1x64 .f32) (main_arg9 : FVec F S1x64 .f32) (main_arg10 : FVec F S1x128 .f32) : IVec S32x2048x512 1 × IVec S32x2048x512 1 × IVec S32x2304x512 1 × IVec S32x2304x128 1 :=
  let main_v0 : FVec F S32x2048x512 .f32 := (extf .f32 · bitsLt_bf16_f32) main_arg0
  let main_v1 : FVec F S32x2048x512 .f32 := Host.absf main_v0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_v4 : FVec F S32x2048x512 .f32 := (extf .f32 · bitsLt_bf16_f32) main_arg1
  let main_v5 : FVec F S32x2048x512 .f32 := Host.absf main_v4
  let main_cst_0 : FVec F S_ .f32 := constant S_ .f32 0x7F800000#32
  let main_v6 : FVec F S32x2048x512 .f32 := broadcastInDim S32x2048x512 ![] bcast_S_S32x2048x512 main_cst_0
  let main_v7 : IVec S32x2048x512 1 := cmpf .olt main_v5 main_v6
  let main_v8 : FVec F S32x2304x512 .f32 := (extf .f32 · bitsLt_bf16_f32) main_arg2
  let main_v9 : FVec F S32x2304x512 .f32 := Host.absf main_v8
  let main_cst_1 : FVec F S_ .f32 := constant S_ .f32 0x7F800000#32
  let main_v10 : FVec F S32x2304x512 .f32 := broadcastInDim S32x2304x512 ![] bcast_S_S32x2304x512 main_cst_1
  let main_v11 : IVec S32x2304x512 1 := cmpf .olt main_v9 main_v10
  let main_v12 : FVec F S32x2304x128 .f32 := (extf .f32 · bitsLt_bf16_f32) main_arg4
  let main_v13 : FVec F S32x2304x128 .f32 := Host.absf main_v12
  let main_cst_2 : FVec F S_ .f32 := constant S_ .f32 0x7F800000#32
  let main_v14 : FVec F S32x2304x128 .f32 := broadcastInDim S32x2304x128 ![] bcast_S_S32x2304x128 main_cst_2
  let main_v15 : IVec S32x2304x128 1 := cmpf .olt main_v13 main_v14
  (main_v3, main_v7, main_v11, main_v15)
-- ==== Pre_used_blocks.lean ====
abbrev S448 : Shape := ⟨1, ![448]⟩
abbrev S1 : Shape := ⟨1, ![1]⟩
abbrev S917504x1024 : Shape := ⟨2, ![917504, 1024]⟩
abbrev S1x64x1024x256 : Shape := ⟨4, ![1, 64, 1024, 256]⟩
abbrev S1x64x256x1024 : Shape := ⟨4, ![1, 64, 256, 1024]⟩
abbrev S_ : Shape := ⟨0, ![]⟩

class Facts : Prop where
  bcast_S_S448 : S_.BroadcastsInDim S448 (![] : Fin 0 → Fin S448.rank)
  bcast_S_S1 : S_.BroadcastsInDim S1 (![] : Fin 0 → Fin S1.rank)
  shapeCasts_S1_S_ : S1.ShapeCasts S_

variable [Facts]

def fn {F : FTy → Type} [FloatOps F] (main_arg0 : IVec S448 32) (main_arg1 : IVec S448 32) (main_arg2 : IVec S1 32) (main_arg3 : FVec F S917504x1024 .bf16) (main_arg4 : FVec F S1x64x1024x256 .f32) (main_arg5 : FVec F S1x64x1024x256 .f32) (main_arg6 : FVec F S1x64x256x1024 .f32) : IVec S448 1 × IVec S1 1 × IVec S448 1 :=
  let main_v0 : IVec S448 32 := iotaInDim S448 32 0
  let main_c : IVec S_ 32 := constantI S_ 32 0#32
  let main_v1 : IVec S448 32 := broadcastInDim S448 ![] bcast_S_S448 main_c
  let main_v2 : IVec S448 1 := cmpi .sge main_arg0 main_v1
  let main_c_0 : IVec S_ 32 := constantI S_ 32 64#32
  let main_v3 : IVec S448 32 := broadcastInDim S448 ![] bcast_S_S448 main_c_0
  let main_v4 : IVec S448 1 := cmpi .slt main_arg0 main_v3
  let main_v5 : IVec S448 1 := andi main_v2 main_v4
  let main_c_1 : IVec S_ 32 := constantI S_ 32 1#32
  let main_v6 : IVec S1 32 := broadcastInDim S1 ![] bcast_S_S1 main_c_1
  let main_v7 : IVec S1 1 := cmpi .sge main_arg2 main_v6
  let main_c_2 : IVec S_ 32 := constantI S_ 32 448#32
  let main_v8 : IVec S1 32 := broadcastInDim S1 ![] bcast_S_S1 main_c_2
  let main_v9 : IVec S1 1 := cmpi .sle main_arg2 main_v8
  let main_v10 : IVec S1 1 := andi main_v7 main_v9
  let main_c_3 : IVec S_ 32 := constantI S_ 32 0#32
  let main_v11 : IVec S448 32 := broadcastInDim S448 ![] bcast_S_S448 main_c_3
  let main_v12 : IVec S448 1 := cmpi .sgt main_arg1 main_v11
  let main_v13 : IVec S_ 32 := shapeCast S_ main_arg2 shapeCasts_S1_S_
  let main_v14 : IVec S448 32 := broadcastInDim S448 ![] bcast_S_S448 main_v13
  let main_v15 : IVec S448 1 := cmpi .slt main_v0 main_v14
  let main_v16 : IVec S448 1 := cmpi .eq main_v12 main_v15
  (main_v5, main_v10, main_v16)
-- ==== Kernel.lean ====
abbrev S32x2048x512 : Shape := ⟨3, ![32, 2048, 512]⟩
abbrev S32x2304x512 : Shape := ⟨3, ![32, 2304, 512]⟩
abbrev S32x2304x128 : Shape := ⟨3, ![32, 2304, 128]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S128 : Shape := ⟨1, ![128]⟩
abbrev S32x2048x1024 : Shape := ⟨3, ![32, 2048, 1024]⟩
abbrev S1x512x512 : Shape := ⟨3, ![1, 512, 512]⟩
abbrev S1x2304x512 : Shape := ⟨3, ![1, 2304, 512]⟩
abbrev S1x2304x128 : Shape := ⟨3, ![1, 2304, 128]⟩
abbrev S1x512x1024 : Shape := ⟨3, ![1, 512, 1024]⟩
abbrev S5x2304x256 : Shape := ⟨3, ![5, 2304, 256]⟩
abbrev S2x512x2304 : Shape := ⟨3, ![2, 512, 2304]⟩
abbrev S2304x128 : Shape := ⟨2, ![2304, 128]⟩
abbrev S512x128 : Shape := ⟨2, ![512, 128]⟩
abbrev S1 : Shape := ⟨1, ![1]⟩
abbrev S1x1 : Shape := ⟨2, ![1, 1]⟩
abbrev S1x512x128 : Shape := ⟨3, ![1, 512, 128]⟩
abbrev S512x2304 : Shape := ⟨2, ![512, 2304]⟩
abbrev S1x512x2304 : Shape := ⟨3, ![1, 512, 2304]⟩
abbrev S512 : Shape := ⟨1, ![512]⟩
abbrev S512x1 : Shape := ⟨2, ![512, 1]⟩
abbrev S1x2304x256 : Shape := ⟨3, ![1, 2304, 256]⟩
abbrev S2304x256 : Shape := ⟨2, ![2304, 256]⟩
abbrev S512x256 : Shape := ⟨2, ![512, 256]⟩

abbrev nBuf : Space → Nat
  | .hbm => 23
  | .vmem => 19
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2304x512, .bf16⟩
  | .hbm, ⟨3, _⟩ => ⟨S32x2304x512, .bf16⟩
  | .hbm, ⟨4, _⟩ => ⟨S32x2304x128, .bf16⟩
  | .hbm, ⟨5, _⟩ => ⟨S32x2304x128, .bf16⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S4x64, .f32⟩
  | .hbm, ⟨20, _⟩ => ⟨S128, .f32⟩
  | .hbm, ⟨21, _⟩ => ⟨S1x128, .f32⟩
  | .hbm, ⟨22, _⟩ => ⟨S32x2048x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x2304x512, .bf16⟩
  | .local _ .vmem, ⟨5, _⟩ => ⟨S1x2304x512, .bf16⟩
  | .local _ .vmem, ⟨6, _⟩ => ⟨S1x2304x512, .bf16⟩
  | .local _ .vmem, ⟨7, _⟩ => ⟨S1x2304x512, .bf16⟩
  | .local _ .vmem, ⟨8, _⟩ => ⟨S1x2304x128, .bf16⟩
  | .local _ .vmem, ⟨9, _⟩ => ⟨S1x2304x128, .bf16⟩
  | .local _ .vmem, ⟨10, _⟩ => ⟨S1x2304x128, .bf16⟩
  | .local _ .vmem, ⟨11, _⟩ => ⟨S1x2304x128, .bf16⟩
  | .local _ .vmem, ⟨12, _⟩ => ⟨S4x64, .f32⟩
  | .local _ .vmem, ⟨13, _⟩ => ⟨S1x128, .f32⟩
  | .local _ .vmem, ⟨14, _⟩ => ⟨S1x512x1024, .bf16⟩
  | .local _ .vmem, ⟨15, _⟩ => ⟨S1x512x1024, .bf16⟩
  | .local _ .vmem, ⟨16, _⟩ => ⟨S5x2304x256, .bf16⟩
  | .local _ .vmem, ⟨17, _⟩ => ⟨S2x512x2304, .f32⟩
  | .local _ .vmem, ⟨18, _⟩ => ⟨S2x512x2304, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2304x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2304x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S32x2048x512 : Shape := ⟨3, ![32, 2048, 512]⟩
abbrev S32x2304x512 : Shape := ⟨3, ![32, 2304, 512]⟩
abbrev S32x2304x128 : Shape := ⟨3, ![32, 2304, 128]⟩
abbrev S1x64 : Shape := ⟨2, ![1, 64]⟩
abbrev S1x128 : Shape := ⟨2, ![1, 128]⟩
abbrev S32x2048x4x2x64 : Shape := ⟨5, ![32, 2048, 4, 2, 64]⟩
abbrev S32x2304x4x2x64 : Shape := ⟨5, ![32, 2304, 4, 2, 64]⟩
abbrev S32x2304x4x128 : Shape := ⟨4, ![32, 2304, 4, 128]⟩
abbrev S32x2048x8x64 : Shape := ⟨4, ![32, 2048, 8, 64]⟩
abbrev S32x2304x2x64 : Shape := ⟨4, ![32, 2304, 2, 64]⟩
abbrev S64 : Shape := ⟨1, ![64]⟩
abbrev S_ : Shape := ⟨0, ![]⟩
abbrev S32x2048x4x1x64 : Shape := ⟨5, ![32, 2048, 4, 1, 64]⟩
abbrev S32x2048x4x64 : Shape := ⟨4, ![32, 2048, 4, 64]⟩
abbrev S32x2304x4x1x64 : Shape := ⟨5, ![32, 2304, 4, 1, 64]⟩
abbrev S32x2304x4x64 : Shape := ⟨4, ![32, 2304, 4, 64]⟩
abbrev S32x4x2304x2048x1 : Shape := ⟨5, ![32, 4, 2304, 2048, 1]⟩
abbrev S32x4x1x2048x2304 : Shape := ⟨5, ![32, 4, 1, 2048, 2304]⟩
abbrev S32x4x1x2048 : Shape := ⟨4, ![32, 4, 1, 2048]⟩
abbrev S32x4x1x2048x1 : Shape := ⟨5, ![32, 4, 1, 2048, 1]⟩
abbrev S32x4x128x1x2048 : Shape := ⟨5, ![32, 4, 128, 1, 2048]⟩
abbrev S32x2048x4x1x128 : Shape := ⟨5, ![32, 2048, 4, 1, 128]⟩
abbrev S32x2048x4x128 : Shape := ⟨4, ![32, 2048, 4, 128]⟩
abbrev S128 : Shape := ⟨1, ![128]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩
abbrev S32x2048x2x4x64 : Shape := ⟨5, ![32, 2048, 2, 4, 64]⟩
abbrev S32x2x2304x2048x4 : Shape := ⟨5, ![32, 2, 2304, 2048, 4]⟩
abbrev S32x2x4x2048x2304 : Shape := ⟨5, ![32, 2, 4, 2048, 2304]⟩
abbrev S32x2x4x2048 : Shape := ⟨4, ![32, 2, 4, 2048]⟩
abbrev S32x2x4x2048x1 : Shape := ⟨5, ![32, 2, 4, 2048, 1]⟩
abbrev S32x2x64x4x2048 : Shape := ⟨5, ![32, 2, 64, 4, 2048]⟩
abbrev S32x2048x1024 : Shape := ⟨3, ![32, 2048, 1024]⟩

abbrev nBuf : Space → Nat
  | .hbm => 145
  | .vmem => 0
  | .smem => 0
  | _ => 0

abbrev hbmTy0_0 (i : Nat) : BufTy := match i % 128 with
  | 0 => ⟨S32x2048x512, .bf16⟩
  | 1 => ⟨S32x2048x512, .bf16⟩
  | 2 => ⟨S32x2304x512, .bf16⟩
  | 3 => ⟨S32x2304x512, .bf16⟩
  | 4 => ⟨S32x2304x128, .bf16⟩
  | 5 => ⟨S32x2304x128, .bf16⟩
  | 6 => ⟨S1x64, .f32⟩
  | 7 => ⟨S1x64, .f32⟩
  | 8 => ⟨S1x64, .f32⟩
  | 9 => ⟨S1x64, .f32⟩
  | 10 => ⟨S1x128, .f32⟩
  | 11 => ⟨S32x2048x512, .f32⟩
  | 12 => ⟨S32x2048x4x2x64, .f32⟩
  | 13 => ⟨S32x2304x512, .f32⟩
  | 14 => ⟨S32x2304x4x2x64, .f32⟩
  | 15 => ⟨S32x2304x512, .f32⟩
  | 16 => ⟨S32x2304x4x128, .f32⟩
  | 17 => ⟨S32x2048x512, .f32⟩
  | 18 => ⟨S32x2048x8x64, .f32⟩
  | 19 => ⟨S32x2304x128, .f32⟩
  | 20 => ⟨S32x2304x2x64, .f32⟩
  | 21 => ⟨S32x2304x128, .f32⟩
  | 22 => ⟨S32x2304x2x64, .f32⟩
  | 23 => ⟨S64, .f32⟩
  | 24 => ⟨S64, .f32⟩
  | 25 => ⟨S64, .f32⟩
  | 26 => ⟨S_, .f32⟩
  | 27 => ⟨S_, .f32⟩
  | 28 => ⟨S_, .f32⟩
  | 29 => ⟨S64, .f32⟩
  | 30 => ⟨S64, .f32⟩
  | 31 => ⟨S64, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S32x2048x4x1x64, .f32⟩
  | 39 => ⟨S32x2048x4x64, .f32⟩
  | 40 => ⟨S32x2304x4x1x64, .f32⟩
  | 41 => ⟨S32x2304x4x64, .f32⟩
  | 42 => ⟨S32x2048x4x1x64, .f32⟩
  | 43 => ⟨S32x4x2304x2048x1, .f32⟩
  | 44 => ⟨S32x4x1x2048x2304, .f32⟩
  | 45 => ⟨S_, .f32⟩
  | 46 => ⟨S_, .f32⟩
  | 47 => ⟨S32x4x1x2048x2304, .f32⟩
  | 48 => ⟨S32x4x1x2048x2304, .f32⟩
  | 49 => ⟨S_, .f32⟩
  | 50 => ⟨S32x4x1x2048, .f32⟩
  | 51 => ⟨S_, .f32⟩
  | 52 => ⟨S32x4x1x2048, .f32⟩
  | 53 => ⟨S32x4x1x2048, .f32⟩
  | 54 => ⟨S32x4x1x2048x1, .f32⟩
  | 55 => ⟨S32x4x1x2048x2304, .f32⟩
  | 56 => ⟨S32x4x1x2048x2304, .f32⟩
  | 57 => ⟨S32x4x1x2048x2304, .f32⟩
  | 58 => ⟨S_, .f32⟩
  | 59 => ⟨S32x4x1x2048, .f32⟩
  | 60 => ⟨S32x4x1x2048x1, .f32⟩
  | 61 => ⟨S32x4x1x2048x2304, .f32⟩
  | 62 => ⟨S32x4x1x2048x2304, .f32⟩
  | 63 => ⟨S32x4x128x1x2048, .f32⟩
  | 64 => ⟨S32x2048x4x1x128, .f32⟩
  | 65 => ⟨S32x2048x4x128, .f32⟩
  | 66 => ⟨S32x2048x4x1x64, .f32⟩
  | 67 => ⟨S32x2048x4x64, .f32⟩
  | 68 => ⟨S32x2304x4x1x64, .f32⟩
  | 69 => ⟨S32x2304x4x64, .f32⟩
  | 70 => ⟨S32x2048x4x1x64, .f32⟩
  | 71 => ⟨S32x4x2304x2048x1, .f32⟩
  | 72 => ⟨S32x4x1x2048x2304, .f32⟩
  | 73 => ⟨S_, .f32⟩
  | 74 => ⟨S_, .f32⟩
  | 75 => ⟨S32x4x1x2048x2304, .f32⟩
  | 76 => ⟨S32x4x1x2048x2304, .f32⟩
  | 77 => ⟨S_, .f32⟩
  | 78 => ⟨S32x4x1x2048, .f32⟩
  | 79 => ⟨S_, .f32⟩
  | 80 => ⟨S32x4x1x2048, .f32⟩
  | 81 => ⟨S32x4x1x2048, .f32⟩
  | 82 => ⟨S32x4x1x2048x1, .f32⟩
  | 83 => ⟨S32x4x1x2048x2304, .f32⟩
  | 84 => ⟨S32x4x1x2048x2304, .f32⟩
  | 85 => ⟨S32x4x1x2048x2304, .f32⟩
  | 86 => ⟨S_, .f32⟩
  | 87 => ⟨S32x4x1x2048, .f32⟩
  | 88 => ⟨S32x4x1x2048x1, .f32⟩
  | 89 => ⟨S32x4x1x2048x2304, .f32⟩
  | 90 => ⟨S32x4x1x2048x2304, .f32⟩
  | 91 => ⟨S32x4x128x1x2048, .f32⟩
  | 92 => ⟨S32x2048x4x1x128, .f32⟩
  | 93 => ⟨S32x2048x4x128, .f32⟩
  | 94 => ⟨S32x2048x4x128, .f32⟩
  | 95 => ⟨S32x2048x4x128, .f32⟩
  | 96 => ⟨S32x2048x4x128, .f32⟩
  | 97 => ⟨S128, .f32⟩
  | 98 => ⟨S32x2048x4x128, .f32⟩
  | 99 => ⟨S_, .f32⟩
  | 100 => ⟨S32x2048x4, .f32⟩
  | 101 => ⟨S32x2048x4x1, .f32⟩
  | 102 => ⟨S_, .f32⟩
  | 103 => ⟨S32x2048x4x1, .f32⟩
  | 104 => ⟨S32x2048x4x1, .f32⟩
  | 105 => ⟨S_, .f32⟩
  | 106 => ⟨S32x2048x4x1, .f32⟩
  | 107 => ⟨S32x2048x4x1, .f32⟩
  | 108 => ⟨S32x2048x4x1, .f32⟩
  | 109 => ⟨S32x2048x4x128, .f32⟩
  | 110 => ⟨S32x2048x4x128, .f32⟩
  | 111 => ⟨S1x1x1x128, .f32⟩
  | 112 => ⟨S32x2048x4x128, .f32⟩
  | 113 => ⟨S32x2048x4x128, .f32⟩
  | 114 => ⟨S_, .f32⟩
  | 115 => ⟨S32x2048x4x128, .f32⟩
  | 116 => ⟨S32x2048x4x128, .f32⟩
  | 117 => ⟨S32x2048x2x4x64, .f32⟩
  | 118 => ⟨S32x2x2304x2048x4, .f32⟩
  | 119 => ⟨S32x2x4x2048x2304, .f32⟩
  | 120 => ⟨S_, .f32⟩
  | 121 => ⟨S_, .f32⟩
  | 122 => ⟨S32x2x4x2048x2304, .f32⟩
  | 123 => ⟨S32x2x4x2048x2304, .f32⟩
  | 124 => ⟨S_, .f32⟩
  | 125 => ⟨S32x2x4x2048, .f32⟩
  | 126 => ⟨S_, .f32⟩
  | 127 => ⟨S32x2x4x2048, .f32⟩
  | _ => ⟨S32x2048x512, .bf16⟩

abbrev hbmTy0_1 (i : Nat) : BufTy := match i % 128 with
  | 0 => ⟨S32x2x4x2048, .f32⟩
  | 1 => ⟨S32x2x4x2048x1, .f32⟩
  | 2 => ⟨S32x2x4x2048x2304, .f32⟩
  | 3 => ⟨S32x2x4x2048x2304, .f32⟩
  | 4 => ⟨S32x2x4x2048x2304, .f32⟩
  | 5 => ⟨S_, .f32⟩
  | 6 => ⟨S32x2x4x2048, .f32⟩
  | 7 => ⟨S32x2x4x2048x1, .f32⟩
  | 8 => ⟨S32x2x4x2048x2304, .f32⟩
  | 9 => ⟨S32x2x4x2048x2304, .f32⟩
  | 10 => ⟨S32x2x64x4x2048, .f32⟩
  | 11 => ⟨S32x2048x2x4x64, .f32⟩
  | 12 => ⟨S32x2048x8x64, .f32⟩
  | 13 => ⟨S32x2048x512, .f32⟩
  | 14 => ⟨S32x2048x512, .f32⟩
  | 15 => ⟨S32x2048x1024, .f32⟩
  | 16 => ⟨S32x2048x1024, .bf16⟩
  | _ => ⟨S32x2048x512, .bf16⟩

abbrev hbmTy (i : Nat) : BufTy := match i / 128 with
  | 0 => hbmTy0_0 i
  | 1 => hbmTy0_1 i
  | _ => ⟨S32x2048x512, .bf16⟩

abbrev bufTy : (tb : Table) → Fin (tcTables nBuf tb) → BufTy
  | .hbm, ⟨i, _⟩ => hbmTy i
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_14 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_15 : Ref sig .tc := ⟨.hbm, 124, rfl⟩
abbrev main_v97 : Ref sig .tc := ⟨.hbm, 125, rfl⟩
abbrev main_cst_16 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_17 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩

abbrev nD : Nat := 1
abbrev τ : Topo := Topo.v7x

variable {F : FTy → Type} [FloatOps F]
-- ==== Kernel2.lean ====
abbrev S448 : Shape := ⟨1, ![448]⟩
abbrev S1 : Shape := ⟨1, ![1]⟩
abbrev S917504x1024 : Shape := ⟨2, ![917504, 1024]⟩
abbrev S1x64x1024x256 : Shape := ⟨4, ![1, 64, 1024, 256]⟩
abbrev S1x64x256x1024 : Shape := ⟨4, ![1, 64, 256, 1024]⟩
abbrev S64x1024x256 : Shape := ⟨3, ![64, 1024, 256]⟩
abbrev S64x256x1024 : Shape := ⟨3, ![64, 256, 1024]⟩
abbrev S2048x1024 : Shape := ⟨2, ![2048, 1024]⟩
abbrev S1x1024x256 : Shape := ⟨3, ![1, 1024, 256]⟩
abbrev S1x256x1024 : Shape := ⟨3, ![1, 256, 1024]⟩
abbrev S1024x256 : Shape := ⟨2, ![1024, 256]⟩
abbrev S2048x256 : Shape := ⟨2, ![2048, 256]⟩
abbrev S256x1024 : Shape := ⟨2, ![256, 1024]⟩

abbrev nBuf : Space → Nat
  | .hbm => 8
  | .vmem => 10
  | .smem => 3
  | _ => 0

abbrev bufTy : (tb : Table) → Fin (tcTables nBuf tb) → BufTy
  | .hbm, ⟨0, _⟩ => ⟨S917504x1024, .bf16⟩
  | .hbm, ⟨1, _⟩ => ⟨S1x64x1024x256, .f32⟩
  | .hbm, ⟨2, _⟩ => ⟨S1x64x1024x256, .f32⟩
  | .hbm, ⟨3, _⟩ => ⟨S1x64x256x1024, .f32⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S917504x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S2048x1024, .bf16⟩
  | .local _ .vmem, ⟨9, _⟩ => ⟨S2048x1024, .bf16⟩
  | .local _ .smem, ⟨0, _⟩ => ⟨S448, .i32⟩
  | .local _ .smem, ⟨1, _⟩ => ⟨S448, .i32⟩
  | .local _ .smem, ⟨2, _⟩ => ⟨S1, .i32⟩
  | _, _ => ⟨S917504x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![448], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S448 : Shape := ⟨1, ![448]⟩
abbrev S1 : Shape := ⟨1, ![1]⟩
abbrev S917504x1024 : Shape := ⟨2, ![917504, 1024]⟩
abbrev S1x64x1024x256 : Shape := ⟨4, ![1, 64, 1024, 256]⟩
abbrev S1x64x256x1024 : Shape := ⟨4, ![1, 64, 256, 1024]⟩
abbrev S448x2048x1024 : Shape := ⟨3, ![448, 2048, 1024]⟩
abbrev S2048 : Shape := ⟨1, ![2048]⟩
abbrev S1x2048x1 : Shape := ⟨3, ![1, 2048, 1]⟩
abbrev S448x1x1 : Shape := ⟨3, ![448, 1, 1]⟩
abbrev S448x2048x1 : Shape := ⟨3, ![448, 2048, 1]⟩
abbrev S_ : Shape := ⟨0, ![]⟩
abbrev S64x1024x256 : Shape := ⟨3, ![64, 1024, 256]⟩
abbrev S448x1 : Shape := ⟨2, ![448, 1]⟩
abbrev S448x1024x256 : Shape := ⟨3, ![448, 1024, 256]⟩
abbrev S64x256x1024 : Shape := ⟨3, ![64, 256, 1024]⟩
abbrev S448x256x1024 : Shape := ⟨3, ![448, 256, 1024]⟩
abbrev S448x2048x256 : Shape := ⟨3, ![448, 2048, 256]⟩

abbrev nBuf : Space → Nat
  | .hbm => 65
  | .vmem => 0
  | .smem => 0
  | _ => 0

abbrev bufTy : (tb : Table) → Fin (tcTables nBuf tb) → BufTy
  | .hbm, ⟨0, _⟩ => ⟨S448, .i32⟩
  | .hbm, ⟨1, _⟩ => ⟨S448, .i32⟩
  | .hbm, ⟨2, _⟩ => ⟨S1, .i32⟩
  | .hbm, ⟨3, _⟩ => ⟨S917504x1024, .bf16⟩
  | .hbm, ⟨4, _⟩ => ⟨S1x64x1024x256, .f32⟩
  | .hbm, ⟨5, _⟩ => ⟨S1x64x1024x256, .f32⟩
  | .hbm, ⟨6, _⟩ => ⟨S1x64x256x1024, .f32⟩
  | .hbm, ⟨7, _⟩ => ⟨S917504x1024, .f32⟩
  | .hbm, ⟨8, _⟩ => ⟨S448x2048x1024, .f32⟩
  | .hbm, ⟨9, _⟩ => ⟨S2048, .i32⟩
  | .hbm, ⟨10, _⟩ => ⟨S1x2048x1, .i32⟩
  | .hbm, ⟨11, _⟩ => ⟨S448x1x1, .i32⟩
  | .hbm, ⟨12, _⟩ => ⟨S448x2048x1, .i32⟩
  | .hbm, ⟨13, _⟩ => ⟨S448x2048x1, .i32⟩
  | .hbm, ⟨14, _⟩ => ⟨S448x2048x1, .i1⟩
  | .hbm, ⟨15, _⟩ => ⟨S_, .f32⟩
  | .hbm, ⟨16, _⟩ => ⟨S_, .f32⟩
  | .hbm, ⟨17, _⟩ => ⟨S448x2048x1024, .i1⟩
  | .hbm, ⟨18, _⟩ => ⟨S448x2048x1024, .f32⟩
  | .hbm, ⟨19, _⟩ => ⟨S448x2048x1024, .f32⟩
  | .hbm, ⟨20, _⟩ => ⟨S64x1024x256, .f32⟩
  | .hbm, ⟨21, _⟩ => ⟨S_, .i32⟩
  | .hbm, ⟨22, _⟩ => ⟨S448, .i32⟩
  | .hbm, ⟨23, _⟩ => ⟨S448, .i1⟩
  | .hbm, ⟨24, _⟩ => ⟨S_, .i32⟩
  | .hbm, ⟨25, _⟩ => ⟨S448, .i32⟩
  | .hbm, ⟨26, _⟩ => ⟨S448, .i32⟩
  | .hbm, ⟨27, _⟩ => ⟨S448, .i32⟩
  | .hbm, ⟨28, _⟩ => ⟨S448x1, .i32⟩
  | .hbm, ⟨29, _⟩ => ⟨S448x1024x256, .f32⟩
  | .hbm, ⟨30, _⟩ => ⟨S64x1024x256, .f32⟩
  | .hbm, ⟨31, _⟩ => ⟨S_, .i32⟩
  | .hbm, ⟨32, _⟩ => ⟨S448, .i32⟩
  | .hbm, ⟨33, _⟩ => ⟨S448, .i1⟩
  | .hbm, ⟨34, _⟩ => ⟨S_, .i32⟩
  | .hbm, ⟨35, _⟩ => ⟨S448, .i32⟩
  | .hbm, ⟨36, _⟩ => ⟨S448, .i32⟩
  | .hbm, ⟨37, _⟩ => ⟨S448, .i32⟩
  | .hbm, ⟨38, _⟩ => ⟨S448x1, .i32⟩
  | .hbm, ⟨39, _⟩ => ⟨S448x1024x256, .f32⟩
  | .hbm, ⟨40, _⟩ => ⟨S64x256x1024, .f32⟩
  | .hbm, ⟨41, _⟩ => ⟨S_, .i32⟩
  | .hbm, ⟨42, _⟩ => ⟨S448, .i32⟩
  | .hbm, ⟨43, _⟩ => ⟨S448, .i1⟩
  | .hbm, ⟨44, _⟩ => ⟨S_, .i32⟩
  | .hbm, ⟨45, _⟩ => ⟨S448, .i32⟩
  | .hbm, ⟨46, _⟩ => ⟨S448, .i32⟩
  | .hbm, ⟨47, _⟩ => ⟨S448, .i32⟩
  | .hbm, ⟨48, _⟩ => ⟨S448x1, .i32⟩
  | .hbm, ⟨49, _⟩ => ⟨S448x256x1024, .f32⟩
  | .hbm, ⟨50, _⟩ => ⟨S448x2048x256, .f32⟩
  | .hbm, ⟨51, _⟩ => ⟨S448x2048x256, .f32⟩
  | .hbm, ⟨52, _⟩ => ⟨S448x2048x256, .f32⟩
  | .hbm, ⟨53, _⟩ => ⟨S_, .f32⟩
  | .hbm, ⟨54, _⟩ => ⟨S448x2048x256, .f32⟩
  | .hbm, ⟨55, _⟩ => ⟨S448x2048x256, .f32⟩
  | .hbm, ⟨56, _⟩ => ⟨S_, .f32⟩
  | .hbm, ⟨57, _⟩ => ⟨S448x2048x256, .f32⟩
  | .hbm, ⟨58, _⟩ => ⟨S448x2048x256, .f32⟩
  | .hbm, ⟨59, _⟩ => ⟨S448x2048x256, .f32⟩
  | .hbm, ⟨60, _⟩ => ⟨S448x2048x256, .f32⟩
  | .hbm, ⟨61, _⟩ => ⟨S448x2048x256, .f32⟩
  | .hbm, ⟨62, _⟩ => ⟨S448x2048x1024, .f32⟩
  | .hbm, ⟨63, _⟩ => ⟨S917504x1024, .f32⟩
  | .hbm, ⟨64, _⟩ => ⟨S917504x1024, .bf16⟩
  | _, _ => ⟨S448, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x6x1024 : Shape := ⟨3, ![32, 6, 1024]⟩
abbrev S1x1024x1024 : Shape := ⟨3, ![1, 1024, 1024]⟩
abbrev S1x1024 : Shape := ⟨2, ![1, 1024]⟩
abbrev S1x1024x64 : Shape := ⟨3, ![1, 1024, 64]⟩
abbrev S1024x1024 : Shape := ⟨2, ![1024, 1024]⟩
abbrev S1024 : Shape := ⟨1, ![1024]⟩
abbrev S1024x64 : Shape := ⟨2, ![1024, 64]⟩
abbrev S64x1024 : Shape := ⟨2, ![64, 1024]⟩
abbrev S64x65536 : Shape := ⟨2, ![64, 65536]⟩
abbrev S1x6x1024 : Shape := ⟨3, ![1, 6, 1024]⟩
abbrev S1x1x1024 : Shape := ⟨3, ![1, 1, 1024]⟩
abbrev S1024x1 : Shape := ⟨2, ![1024, 1]⟩

abbrev nBuf : Space → Nat
  | .hbm => 19
  | .vmem => 16
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S32x6x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x64, .f32⟩
  | .hbm, ⟨7, _⟩ => ⟨S1024x1024, .f32⟩
  | .hbm, ⟨8, _⟩ => ⟨S1024x1024, .bf16⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024x64, .f32⟩
  | .hbm, ⟨14, _⟩ => ⟨S64x1024, .f32⟩
  | .hbm, ⟨15, _⟩ => ⟨S64x1024, .bf16⟩
  | .hbm, ⟨16, _⟩ => ⟨S32x2048x1024, .f32⟩
  | .hbm, ⟨17, _⟩ => ⟨S32x2048x1024, .bf16⟩
  | .hbm, ⟨18, _⟩ => ⟨S64x65536, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S64x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S64x1024, .f32⟩
  | .local _ .vmem, ⟨15, _⟩ => ⟨S64x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S32x2048x1024 : Shape := ⟨3, ![32, 2048, 1024]⟩
abbrev S32x6x1024 : Shape := ⟨3, ![32, 6, 1024]⟩
abbrev S1x1024x1024 : Shape := ⟨3, ![1, 1024, 1024]⟩
abbrev S1x1024 : Shape := ⟨2, ![1, 1024]⟩
abbrev S1x1024x64 : Shape := ⟨3, ![1, 1024, 64]⟩
abbrev S32x1x1024 : Shape := ⟨3, ![32, 1, 1024]⟩
abbrev S1024x1024 : Shape := ⟨2, ![1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩
abbrev S1024x64 : Shape := ⟨2, ![1024, 64]⟩
abbrev S65536x64 : Shape := ⟨2, ![65536, 64]⟩
abbrev S64x65536 : Shape := ⟨2, ![64, 65536]⟩

abbrev nBuf : Space → Nat
  | .hbm => 73
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S32x6x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x64, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x2048x1024, .f32⟩
  | .hbm, ⟨14, _⟩ => ⟨S1024x1024, .f32⟩
  | .hbm, ⟨15, _⟩ => ⟨S32x2048x1024, .f32⟩
  | .hbm, ⟨16, _⟩ => ⟨S1024, .f32⟩
  | .hbm, ⟨17, _⟩ => ⟨S32x2048x1024, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S32x2048x1, .f32⟩
  | .hbm, ⟨28, _⟩ => ⟨S32x2048x1024, .f32⟩
  | .hbm, ⟨29, _⟩ => ⟨S32x2048x1024, .f32⟩
  | .hbm, ⟨30, _⟩ => ⟨S1x1x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S1024, .f32⟩
  | .hbm, ⟨37, _⟩ => ⟨S32x2048x1024, .f32⟩
  | .hbm, ⟨38, _⟩ => ⟨S_, .f32⟩
  | .hbm, ⟨39, _⟩ => ⟨S32x2048, .f32⟩
  | .hbm, ⟨40, _⟩ => ⟨S32x2048x1, .f32⟩
  | .hbm, ⟨41, _⟩ => ⟨S_, .f32⟩
  | .hbm, ⟨42, _⟩ => ⟨S32x2048x1, .f32⟩
  | .hbm, ⟨43, _⟩ => ⟨S32x2048x1, .f32⟩
  | .hbm, ⟨44, _⟩ => ⟨S_, .f32⟩
  | .hbm, ⟨45, _⟩ => ⟨S32x2048x1, .f32⟩
  | .hbm, ⟨46, _⟩ => ⟨S32x2048x1, .f32⟩
  | .hbm, ⟨47, _⟩ => ⟨S32x2048x1, .f32⟩
  | .hbm, ⟨48, _⟩ => ⟨S32x2048x1024, .f32⟩
  | .hbm, ⟨49, _⟩ => ⟨S32x2048x1024, .f32⟩
  | .hbm, ⟨50, _⟩ => ⟨S1x1x1024, .f32⟩
  | .hbm, ⟨51, _⟩ => ⟨S32x2048x1024, .f32⟩
  | .hbm, ⟨52, _⟩ => ⟨S32x2048x1024, .f32⟩
  | .hbm, ⟨53, _⟩ => ⟨S_, .f32⟩
  | .hbm, ⟨54, _⟩ => ⟨S32x1x1024, .f32⟩
  | .hbm, ⟨55, _⟩ => ⟨S32x1x1024, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S32x2048x1024, .f32⟩
  | .hbm, ⟨60, _⟩ => ⟨S65536x1024, .f32⟩
  | .hbm, ⟨61, _⟩ => ⟨S1024x64, .f32⟩
  | .hbm, ⟨62, _⟩ => ⟨S65536x64, .f32⟩
  | .hbm, ⟨63, _⟩ => ⟨S65536x64, .f32⟩
  | .hbm, ⟨64, _⟩ => ⟨S65536x64, .f32⟩
  | .hbm, ⟨65, _⟩ => ⟨S_, .f32⟩
  | .hbm, ⟨66, _⟩ => ⟨S65536x64, .f32⟩
  | .hbm, ⟨67, _⟩ => ⟨S65536x64, .f32⟩
  | .hbm, ⟨68, _⟩ => ⟨S_, .f32⟩
  | .hbm, ⟨69, _⟩ => ⟨S65536x64, .f32⟩
  | .hbm, ⟨70, _⟩ => ⟨S65536x64, .f32⟩
  | .hbm, ⟨71, _⟩ => ⟨S32x2048x1024, .bf16⟩
  | .hbm, ⟨72, _⟩ => ⟨S64x65536, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Proof.Softmax.lean ====
/- The mathematics of one attention row, over the extended reals: the kernel divides the product of the unnormalized
   weights and the values by the weights' sum, and takes powers of 2; the reference normalizes the weights first, and takes
   exponentials of the scores times ln 2. On finite scores the two are equal, whatever the values are. -/
module

public import Idealize.ShloMosaic.PureOps.Ideal
public import Idealize.ShloMosaic.Lib.IdealHost

@[expose] public section

noncomputable section

namespace Cert.Attn

open Idealize.ShloMosaic

variable {n : ℕ}

/-- The largest of the scores, taken from −∞ on. -/
def peak (s : Fin n → EReal) : EReal := (Finset.univ : Finset (Fin n)).fold max ⊥ s

/-- One row as the kernel has it: the weights are powers of 2, and the quotient comes last. -/
def rowK (s v : Fin n → EReal) : EReal :=
  Ideal.div (∑ j, Ideal.exp2 (s j - peak s) * v j) (∑ j, Ideal.exp2 (s j - peak s))

/-- One row as the reference has it: the weights are exponentials of the scores `t`, each divided by their sum. -/
def rowR (t v : Fin n → EReal) : EReal :=
  ∑ j, v j * Ideal.div (Ideal.exp (t j - peak t)) (∑ j, Ideal.exp (t j - peak t))

/-- The largest of finitely many reals is one of them. -/
theorem peak_coe (hn : 0 < n) (s : Fin n → ℝ) :
    ∃ M : ℝ, peak (fun j => (s j : EReal)) = (M : EReal) ∧ (∀ j, s j ≤ M) ∧ ∃ j, s j = M := by
  obtain ⟨j0, -, hj0⟩ := Finset.exists_max_image (Finset.univ : Finset (Fin n)) s ⟨⟨0, hn⟩, Finset.mem_univ _⟩
  refine ⟨s j0, ?_, fun j => hj0 j (Finset.mem_univ j), j0, rfl⟩
  unfold peak
  apply le_antisymm
  · rw [Finset.fold_max_le]
    exact ⟨bot_le, fun j hj => EReal.coe_le_coe_iff.mpr (hj0 j hj)⟩
  · rw [Finset.le_fold_max]
    exact Or.inr ⟨j0, Finset.mem_univ _, le_refl _⟩

/-- A finite sum of reals, as an extended real. -/
theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A real factor that is not negative goes into a finite sum. -/
theorem sum_mul_coe {ι : Type} (t : Finset ι) (f : ι → EReal) {r : ℝ} (hr : 0 ≤ r) :
    (∑ j ∈ t, f j) * (r : EReal) = ∑ j ∈ t, f j * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

/-- A row of finite scores: the kernel's row is the reference's, at the scores times ln 2. -/
theorem rowK_eq_rowR (hn : 0 < n) (s v : Fin n → EReal) (hs : ∀ j, ∃ r : ℝ, s j = (r : EReal)) :
    rowK s v = rowR (fun j => s j * ((Real.log 2 : ℝ) : EReal)) v := by
  choose x hx using hs
  obtain rfl : s = fun j => (x j : EReal) := funext hx
  obtain ⟨M, hM, hle, j0, hj0⟩ := peak_coe hn x
  have hlog : (0 : ℝ) < Real.log 2 := Real.log_pos (by norm_num)
  have ht : (fun j => (x j : EReal) * ((Real.log 2 : ℝ) : EReal)) = fun j => ((x j * Real.log 2 : ℝ) : EReal) :=
    funext fun j => (EReal.coe_mul _ _).symm
  rw [ht]
  obtain ⟨M', hM', hle', j1, hj1⟩ := peak_coe hn (fun j => x j * Real.log 2)
  have hMM : M' = M * Real.log 2 := by
    apply le_antisymm
    · rw [← hj1]; exact mul_le_mul_of_nonneg_right (hle j1) hlog.le
    · rw [← hj0]; exact hle' j0
  set w : Fin n → ℝ := fun j => Real.rpow 2 (x j - M) with hw
  have hK : ∀ j, Ideal.exp2 ((x j : EReal) - peak (fun j => (x j : EReal))) = (w j : EReal) := fun j => by
    rw [hM, ← EReal.coe_sub]; rfl
  have hR : ∀ j, Ideal.exp (((x j * Real.log 2 : ℝ) : EReal) - peak (fun j => ((x j * Real.log 2 : ℝ) : EReal))) = (w j : EReal) := fun j => by
    rw [hM', ← EReal.coe_sub]
    show ((Real.exp _ : ℝ) : EReal) = _
    congr 1
    rw [hMM, hw]
    show _ = (2 : ℝ) ^ (x j - M)
    rw [Real.rpow_def_of_pos (by norm_num)]
    congr 1; ring
  unfold rowK rowR
  simp only [hK, hR]
  have hwpos : ∀ j, 0 < w j := fun j => Real.rpow_pos_of_pos (by norm_num) _
  have hpos : 0 < ∑ j, w j := Finset.sum_pos (fun j _ => hwpos j) ⟨j0, Finset.mem_univ _⟩
  rw [← coe_sum]
  have hdiv : ∀ y : EReal, Ideal.div y ((∑ j, w j : ℝ) : EReal) = y * (((∑ j, w j)⁻¹ : ℝ) : EReal) := fun y => by
    unfold Ideal.div
    rw [if_neg (by exact_mod_cast hpos.ne'), ← EReal.coe_inv]
  simp only [hdiv]
  rw [sum_mul_coe _ _ (inv_nonneg.mpr hpos.le)]
  refine Finset.sum_congr rfl fun j _ => ?_
  rw [mul_comm (w j : EReal) (v j), mul_assoc]

/-! ## The layer's attention, row by row -/

/-- Lane `i` of chunk `c`, the row's lanes cut into 8 chunks of 64. -/
def lane64 (c : Fin 8) (i : Fin 64) : Fin 512 := ⟨64 * c.val + i.val, by omega⟩

/-- Lane `d` of head `h`, the row's lanes cut into 4 heads of 128. -/
def lane128 (h : Fin 4) (d : Fin 128) : Fin 512 := ⟨128 * h.val + d.val, by omega⟩

/-- Lane `i` of the key-value head that grouped head `c` uses: four query heads share one. -/
def kvLane (c : Fin 8) (i : Fin 64) : Fin 128 := ⟨64 * (c.val / 4) + i.val, by omega⟩

/-- Chunk `b` of the two that make head `h`. -/
def half (h : Fin 4) (b : Fin 2) : Fin 8 := ⟨2 * h.val + b.val, by omega⟩

/-- The score of the differential attention's chunk `c`: the query row by key row `j`. -/
def dScore (q : Fin 512 → EReal) (k : Fin 2304 → Fin 512 → EReal) (c : Fin 8) (j : Fin 2304) : EReal :=
  ∑ i : Fin 64, q (lane64 c i) * k j (lane64 c i)

/-- The score of the grouped attention's head `c`: the query row by key row `j` of the head's group. -/
def gScore (q : Fin 512 → EReal) (k : Fin 2304 → Fin 128 → EReal) (c : Fin 8) (j : Fin 2304) : EReal :=
  ∑ i : Fin 64, q (lane64 c i) * k j (kvLane c i)

/-- The differential attention's factor λ from its four rows of weights. -/
def lam (w : Fin 4 → Fin 64 → EReal) : EReal :=
  Ideal.exp (∑ i, w 0 i * w 1 i) - Ideal.exp (∑ i, w 2 i * w 3 i) + Ideal.ofBits .f32 0x3E4CCCCD#32

/-- The reciprocal root of a row's mean square. -/
def scale (x : Fin 128 → EReal) : EReal :=
  Ideal.rsqrt (Ideal.div (∑ i, x i * x i) (Ideal.ofBits .f32 0x43000000#32) + Ideal.ofBits .f32 0x358637BD#32)

/-- One result lane as the kernel has it. -/
def outK (dq gq : Fin 512 → EReal) (dk dv : Fin 2304 → Fin 512 → EReal) (gk gv : Fin 2304 → Fin 128 → EReal)
    (w : Fin 4 → Fin 64 → EReal) (g : Fin 128 → EReal) (l : Fin 1024) : EReal :=
  if hl : l.val < 512 then
    let h : Fin 4 := ⟨l.val / 128, by omega⟩
    let d : Fin 128 := ⟨l.val % 128, Nat.mod_lt _ (by decide)⟩
    let x : Fin 128 → EReal := fun d => rowK (dScore dq dk (half h 0)) (fun j => dv j (lane128 h d))
      - lam w * rowK (dScore dq dk (half h 1)) (fun j => dv j (lane128 h d))
    x d * scale x * (g d * Ideal.ofBits .f32 0x3F4CCCCD#32)
  else
    let c : Fin 8 := ⟨(l.val - 512) / 64, by omega⟩
    rowK (gScore gq gk c) (fun j => gv j (kvLane c ⟨l.val % 64, Nat.mod_lt _ (by decide)⟩))

section

variable (dq gq : Fin 512 → EReal) (dk dv : Fin 2304 → Fin 512 → EReal) (gk gv : Fin 2304 → Fin 128 → EReal)
  (w : Fin 4 → Fin 64 → EReal) (g : Fin 128 → EReal)

/-- The difference of one head's two outputs, as the kernel has it. -/
def diffK (h : Fin 4) (d : Fin 128) : EReal :=
  rowK (dScore dq dk (half h 0)) (fun j => dv j (lane128 h d)) - lam w * rowK (dScore dq dk (half h 1)) (fun j => dv j (lane128 h d))

/-- The first 512 lanes are the differential attention's. -/
theorem outK_diff (l : Fin 1024) (h : Fin 4) (d : Fin 128) (hl : l.val = 128 * h.val + d.val) :
    outK dq gq dk dv gk gv w g l = diffK dq dk dv w h d * scale (diffK dq dk dv w h) * (g d * Ideal.ofBits .f32 0x3F4CCCCD#32) := by
  obtain ⟨l, hl'⟩ := l
  dsimp only at hl
  subst hl
  unfold outK
  rw [dif_pos (show 128 * h.val + d.val < 512 by omega)]
  have e1 : (128 * h.val + d.val) / 128 = h.val := by omega
  have e2 : (128 * h.val + d.val) % 128 = d.val := by omega
  simp only [e1, e2, Fin.eta]
  rfl

/-- The last 512 lanes are the grouped attention's. -/
theorem outK_group (l : Fin 1024) (c : Fin 8) (d : Fin 64) (hl : l.val = 512 + (64 * c.val + d.val)) :
    outK dq gq dk dv gk gv w g l = rowK (gScore gq gk c) (fun j => gv j (kvLane c d)) := by
  obtain ⟨l, hl'⟩ := l
  dsimp only at hl
  subst hl
  unfold outK
  rw [dif_neg (show ¬ 512 + (64 * c.val + d.val) < 512 by omega)]
  have e1 : (512 + (64 * c.val + d.val) - 512) / 64 = c.val := by omega
  have e2 : (512 + (64 * c.val + d.val)) % 64 = d.val := by omega
  simp only [e1, e2, Fin.eta]

end

/-- One result lane as the reference has it. -/
def outR (dq gq : Fin 512 → EReal) (dk dv : Fin 2304 → Fin 512 → EReal) (gk gv : Fin 2304 → Fin 128 → EReal)
    (w : Fin 4 → Fin 64 → EReal) (g : Fin 128 → EReal) (l : Fin 1024) : EReal :=
  if hl : l.val < 512 then
    let h : Fin 4 := ⟨l.val / 128, by omega⟩
    let d : Fin 128 := ⟨l.val % 128, Nat.mod_lt _ (by decide)⟩
    let x : Fin 128 → EReal := fun d =>
      rowR (fun j => dScore dq dk (half h 0) j * ((Real.log 2 : ℝ) : EReal)) (fun j => dv j (lane128 h d))
      - lam w * rowR (fun j => dScore dq dk (half h 1) j * ((Real.log 2 : ℝ) : EReal)) (fun j => dv j (lane128 h d))
    x d * scale x * g d * Ideal.ofBits .f32 0x3F4CCCCD#32
  else
    let c : Fin 8 := ⟨(l.val - 512) / 64, by omega⟩
    rowR (fun j => gScore gq gk c j * ((Real.log 2 : ℝ) : EReal)) (fun j => gv j (kvLane c ⟨l.val % 64, Nat.mod_lt _ (by decide)⟩))

/-- A finite sum of products of reals is a real. -/
theorem finite_dot {ι : Type} [Fintype ι] (a b : ι → EReal) (ha : ∀ i, ∃ r : ℝ, a i = (r : EReal))
    (hb : ∀ i, ∃ r : ℝ, b i = (r : EReal)) : ∃ r : ℝ, ∑ i, a i * b i = (r : EReal) := by
  choose x hx using ha
  choose y hy using hb
  refine ⟨∑ i, x i * y i, ?_⟩
  rw [coe_sum]
  exact Finset.sum_congr rfl fun i _ => by rw [hx, hy, EReal.coe_mul]

/-- On finite queries and keys the two are the same lane. -/
theorem outK_eq_outR (dq gq : Fin 512 → EReal) (dk dv : Fin 2304 → Fin 512 → EReal) (gk gv : Fin 2304 → Fin 128 → EReal)
    (w : Fin 4 → Fin 64 → EReal) (g : Fin 128 → EReal) (l : Fin 1024)
    (hdq : ∀ i, ∃ r : ℝ, dq i = (r : EReal)) (hgq : ∀ i, ∃ r : ℝ, gq i = (r : EReal))
    (hdk : ∀ j i, ∃ r : ℝ, dk j i = (r : EReal)) (hgk : ∀ j i, ∃ r : ℝ, gk j i = (r : EReal)) :
    outK dq gq dk dv gk gv w g l = outR dq gq dk dv gk gv w g l := by
  have hd : ∀ (c : Fin 8) (v : Fin 2304 → EReal), rowK (dScore dq dk c) v
      = rowR (fun j => dScore dq dk c j * ((Real.log 2 : ℝ) : EReal)) v := fun c v =>
    rowK_eq_rowR (by decide) _ _ fun j => finite_dot _ _ (fun _ => hdq _) (fun _ => hdk _ _)
  have hg : ∀ (c : Fin 8) (v : Fin 2304 → EReal), rowK (gScore gq gk c) v
      = rowR (fun j => gScore gq gk c j * ((Real.log 2 : ℝ) : EReal)) v := fun c v =>
    rowK_eq_rowR (by decide) _ _ fun j => finite_dot _ _ (fun _ => hgq _) (fun _ => hgk _ _)
  unfold outK outR
  split
  · simp only [hd, mul_assoc]
  · simp only [hg]

end Cert.Attn

end
-- ==== Proof.Payloads.lean ====
/- The kernel's stored values, read at an index over the extended reals: the scores of one head, their weights, the head's
   output, and the two kinds of result block. -/
module

public import proofs.«01_k».proof.Proof.Gen.KernelIdeal.Frame
public import proofs.«01_k».proof.Proof.Softmax
public import Idealize.ShloMosaic.Lib.Pointwise
public import Idealize.ShloMosaic.Lib.Tactic

@[expose] public section

set_option maxRecDepth 16384

noncomputable section

namespace Cert.KernelIdeal.Block

open Idealize.ShloMosaic Idealize.ShloMosaic.TcCoe
open Cert.KernelIdeal Cert.KernelIdeal.Gen Cert.Attn

/-- Lane `i` of the lower half of 128. -/
def lo (i : Fin 64) : Fin 128 := ⟨i.val, by omega⟩

/-- Lane `i` of the upper half of 128. -/
def hi (i : Fin 64) : Fin 128 := ⟨64 + i.val, by omega⟩

/-- A sum over 128 lanes is the sum over the lower half plus the sum over the upper half. -/
theorem sum_halves (f : Fin 128 → EReal) : ∑ x, f x = ∑ i : Fin 64, f (lo i) + ∑ i : Fin 64, f (hi i) :=
  Fin.sum_univ_add (a := 64) (b := 64) f

/-- The lane mask is set on the lower half. -/
theorem mask_lo (i : Fin 64) : IntOp.cmpi CmpIPredicate.slt (BitVec.ofNat 32 (lo i).val) 64#32 = 1#1 := by
  revert i; decide

/-- The lane mask is clear on the upper half. -/
theorem mask_hi (i : Fin 64) : IntOp.cmpi CmpIPredicate.slt (BitVec.ofNat 32 (hi i).val) 64#32 = 0#1 := by
  revert i; decide

/-- Half a turn takes a lower lane to the upper one. -/
theorem turn_lo (i : Fin 64) (h : ((lo i).val + 128 - 64) % 128 < 128) : (⟨((lo i).val + 128 - 64) % 128, h⟩ : Fin 128) = hi i :=
  Fin.ext (by unfold lo hi; dsimp only; omega)

/-- Half a turn takes an upper lane to the lower one. -/
theorem turn_hi (i : Fin 64) (h : ((hi i).val + 128 - 64) % 128 < 128) : (⟨((hi i).val + 128 - 64) % 128, h⟩ : Fin 128) = lo i :=
  Fin.ext (by unfold lo hi; dsimp only; omega)

theorem one_xor : IntOp.xori (1#1) (1#1) = 0#1 := by decide
theorem zero_xor : IntOp.xori (0#1) (1#1) = 1#1 := by decide

variable (q : Vec Ideal S1x512x128 .bf16) (k : Vec Ideal S1x2304x128 .bf16) (r : Fin 512) (j : Fin 2304)

/-- Scores of lower query lanes by lower key lanes. -/
theorem score_ll : k0_pay14 q k (ix3 0 r j) = ∑ i : Fin 64, q (ix3 0 r (lo i)) * k (ix3 0 j (lo i)) := by
  pointwise [k0_pay14, k0_pay12]
  rw [sum_halves]
  simp only [mask_lo, mask_hi, ValueIdx.select_one, ValueIdx.select_zero, Finset.sum_const_zero, add_zero]

/-- Scores of upper query lanes by upper key lanes. -/
theorem score_uu : k0_pay15 k0_pay12 q k (ix3 0 r j) = ∑ i : Fin 64, q (ix3 0 r (hi i)) * k (ix3 0 j (hi i)) := by
  pointwise [k0_pay15, k0_pay12]
  rw [sum_halves]
  simp only [mask_lo, mask_hi, ValueIdx.select_one, ValueIdx.select_zero, Finset.sum_const_zero, zero_add]

/-- Scores of upper query lanes, turned by half, by lower key lanes. -/
theorem score_ul : k0_pay45 k0_pay12 q k (ix3 0 r j) = ∑ i : Fin 64, q (ix3 0 r (hi i)) * k (ix3 0 j (lo i)) := by
  pointwise [k0_pay45, k0_pay12]
  rw [sum_halves]
  simp only [mask_lo, mask_hi, turn_lo, ValueIdx.select_one, ValueIdx.select_zero, Finset.sum_const_zero, add_zero]

/-- Scores of lower query lanes, turned by half, by upper key lanes. -/
theorem score_lu : k0_pay57 k0_pay12 q k (ix3 0 r j) = ∑ i : Fin 64, q (ix3 0 r (lo i)) * k (ix3 0 j (hi i)) := by
  pointwise [k0_pay57, k0_pay12]
  rw [sum_halves]
  simp only [mask_lo, mask_hi, one_xor, zero_xor, turn_hi, ValueIdx.select_one, ValueIdx.select_zero, Finset.sum_const_zero, zero_add]

/-- Scores of upper query lanes by upper key lanes, masked the other way. -/
theorem score_uu' : k0_pay61 k0_pay12 q k (ix3 0 r j) = ∑ i : Fin 64, q (ix3 0 r (hi i)) * k (ix3 0 j (hi i)) := by
  pointwise [k0_pay61, k0_pay12]
  rw [sum_halves]
  simp only [mask_lo, mask_hi, one_xor, zero_xor, ValueIdx.select_one, ValueIdx.select_zero, Finset.sum_const_zero, zero_add]

/-- The pattern of −∞. -/
theorem ofBits_ninf : Ideal.ofBits .f32 0xFF800000#32 = ⊥ := by
  simp [Ideal.ofBits, Ideal.ieee]

/-- The weights of a row of scores. -/
theorem weight (s : Vec Ideal S1x512x2304 .f32) :
    k0_pay16 s (ix3 0 r j) = Ideal.exp2 (s (ix3 0 r j) - peak fun j => s (ix3 0 r j)) := by
  pointwise [k0_pay16]
  rw [ofBits_ninf]
  rfl

/-- One head's output from its scores, where the upper lanes of the values hold ones. -/
theorem head (s : Vec Ideal S1x512x2304 .f32) (V : Vec Ideal S1x2304x256 .bf16) (d : Fin 128)
    (h1 : ∀ j, V (ix3 0 j ⟨128 + d.val, by omega⟩) = 1) :
    k0_pay17 (k0_pay16 s) V (ix2 r d) = rowK (fun j => s (ix3 0 r j)) (fun j => V (ix3 0 j ⟨d.val, by omega⟩)) := by
  pointwise [k0_pay17]
  simp only [weight, h1, mul_one]
  rfl

/-- An array of 128 lanes turned by half, on a lower lane. -/
theorem turn_apply_lo (x : FVec Ideal S512x128 .f32) (d : Fin 64) :
    dynamicRotate 1 64#32 none x rotates_S512x128_d1 (ix2 r (lo d)) = x (ix2 r (hi d)) := by
  pointwise []
  rw [turn_lo]

/-- An array of 128 lanes turned by half, on an upper lane. -/
theorem turn_apply_hi (x : FVec Ideal S512x128 .f32) (d : Fin 64) :
    dynamicRotate 1 64#32 none x rotates_S512x128_d1 (ix2 r (hi d)) = x (ix2 r (lo d)) := by
  pointwise []
  rw [turn_hi]

/-- A turned head's output on a lower lane is the head's own on the upper lane. -/
theorem turned_lo (u : Vec Ideal S1x512x2304 .bf16) (V : Vec Ideal S1x2304x256 .bf16) (d : Fin 64) :
    k0_pay52 u V (ix2 r (lo d)) = k0_pay17 u V (ix2 r (hi d)) := turn_apply_lo r (k0_pay17 u V) d

/-- A turned head's output on an upper lane is the head's own on the lower lane. -/
theorem turned_hi (u : Vec Ideal S1x512x2304 .bf16) (V : Vec Ideal S1x2304x256 .bf16) (d : Fin 64) :
    k0_pay52 u V (ix2 r (hi d)) = k0_pay17 u V (ix2 r (lo d)) := turn_apply_hi r (k0_pay17 u V) d

/-- The differential result from two heads' outputs. -/
theorem finish_diff (l : FVec Ideal S1x1 .f32) (a b : FVec Ideal S512x128 .f32) (g : Vec Ideal S1x128 .f32) (d : Fin 128) :
    k0_pay78 l a b g (ix3 0 r d) = (a (ix2 r d) - l (ix2 0 0) * b (ix2 r d))
      * scale (fun d => a (ix2 r d) - l (ix2 0 0) * b (ix2 r d)) * (g (ix2 0 d) * Ideal.ofBits .f32 0x3F4CCCCD#32) := by
  pointwise [k0_pay78]
  rfl

/-- The grouped result on a lower lane is the even head's. -/
theorem finish_lo (a b : FVec Ideal S512x128 .f32) (d : Fin 64) :
    k0_pay82 k0_pay12 a b (ix3 0 r (lo d)) = a (ix2 r (lo d)) := by
  pointwise [k0_pay82, k0_pay12]
  simp only [mask_lo, ValueIdx.select_one]

/-- The grouped result on an upper lane is the odd head's. -/
theorem finish_hi (a b : FVec Ideal S512x128 .f32) (d : Fin 64) :
    k0_pay82 k0_pay12 a b (ix3 0 r (hi d)) = b (ix2 r (hi d)) := by
  pointwise [k0_pay82, k0_pay12]
  simp only [mask_hi, ValueIdx.select_zero]

/-- The factor λ. -/
theorem lam_apply (x : Vec Ideal S4x64 .f32) : k0_pay13 x (ix2 0 0) = lam fun a i => x (ix2 a i) := by
  pointwise [k0_pay13]
  rfl

/-- Two lanes of the lower and the upper half make all 128. -/
theorem lane_cases (d : Fin 128) : (∃ i, d = lo i) ∨ ∃ i, d = hi i := by
  by_cases h : d.val < 64
  · exact Or.inl ⟨⟨d.val, h⟩, rfl⟩
  · exact Or.inr ⟨⟨d.val - 64, by omega⟩, Fin.ext (by unfold hi; dsimp only; omega)⟩

/-! ### The other heads' stored values are the same functions -/

theorem weight_20 (s : Vec Ideal S1x512x2304 .f32) :
    k0_pay20 s = k0_pay16 s := rfl
theorem weight_24 (s : Vec Ideal S1x512x2304 .f32) :
    k0_pay24 s = k0_pay16 s := rfl
theorem weight_28 (s : Vec Ideal S1x512x2304 .f32) :
    k0_pay28 s = k0_pay16 s := rfl
theorem weight_32 (s : Vec Ideal S1x512x2304 .f32) :
    k0_pay32 s = k0_pay16 s := rfl
theorem weight_35 (s : Vec Ideal S1x512x2304 .f32) :
    k0_pay35 s = k0_pay16 s := rfl
theorem weight_73 (s : Vec Ideal S1x512x2304 .f32) :
    k0_pay73 s = k0_pay16 s := rfl
theorem weight_39 (s : Vec Ideal S1x512x2304 .f32) :
    k0_pay39 (k0_pay38 s) = k0_pay16 s := rfl
theorem weight_43 (s : Vec Ideal S1x512x2304 .f32) :
    k0_pay43 (k0_pay42 s) = k0_pay16 s := rfl
theorem weight_47 (s : Vec Ideal S1x512x2304 .f32) :
    k0_pay47 (k0_pay46 s) = k0_pay16 s := rfl
theorem weight_51 (s : Vec Ideal S1x512x2304 .f32) :
    k0_pay51 (k0_pay50 s) = k0_pay16 s := rfl
theorem weight_55 (s : Vec Ideal S1x512x2304 .f32) :
    k0_pay55 (k0_pay54 s) = k0_pay16 s := rfl
theorem weight_59 (s : Vec Ideal S1x512x2304 .f32) :
    k0_pay59 (k0_pay58 s) = k0_pay16 s := rfl
theorem weight_63 (s : Vec Ideal S1x512x2304 .f32) :
    k0_pay63 (k0_pay62 s) = k0_pay16 s := rfl
theorem weight_67 (s : Vec Ideal S1x512x2304 .f32) :
    k0_pay67 (k0_pay66 s) = k0_pay16 s := rfl
theorem weight_71 (s : Vec Ideal S1x512x2304 .f32) :
    k0_pay71 (k0_pay70 s) = k0_pay16 s := rfl
theorem head_21 (u : Vec Ideal S1x512x2304 .bf16) (V : Vec Ideal S1x2304x256 .bf16) :
    k0_pay21 u V = k0_pay17 u V := rfl
theorem head_25 (u : Vec Ideal S1x512x2304 .bf16) (V : Vec Ideal S1x2304x256 .bf16) :
    k0_pay25 u V = k0_pay17 u V := rfl
theorem head_29 (u : Vec Ideal S1x512x2304 .bf16) (V : Vec Ideal S1x2304x256 .bf16) :
    k0_pay29 u V = k0_pay17 u V := rfl
theorem head_33 (u : Vec Ideal S1x512x2304 .bf16) (V : Vec Ideal S1x2304x256 .bf16) :
    k0_pay33 u V = k0_pay17 u V := rfl
theorem head_36 (u : Vec Ideal S1x512x2304 .bf16) (V : Vec Ideal S1x2304x256 .bf16) :
    k0_pay36 u V = k0_pay17 u V := rfl
theorem head_40 (u : Vec Ideal S1x512x2304 .bf16) (V : Vec Ideal S1x2304x256 .bf16) :
    k0_pay40 u V = k0_pay17 u V := rfl
theorem head_44 (u : Vec Ideal S1x512x2304 .bf16) (V : Vec Ideal S1x2304x256 .bf16) :
    k0_pay44 u V = k0_pay17 u V := rfl
theorem head_48 (u : Vec Ideal S1x512x2304 .bf16) (V : Vec Ideal S1x2304x256 .bf16) :
    k0_pay48 u V = k0_pay17 u V := rfl
theorem head_56 (u : Vec Ideal S1x512x2304 .bf16) (V : Vec Ideal S1x2304x256 .bf16) :
    k0_pay56 u V = k0_pay17 u V := rfl
theorem head_68 (u : Vec Ideal S1x512x2304 .bf16) (V : Vec Ideal S1x2304x256 .bf16) :
    k0_pay68 u V = k0_pay17 u V := rfl
theorem head_74 (u : Vec Ideal S1x512x2304 .bf16) (V : Vec Ideal S1x2304x256 .bf16) :
    k0_pay74 u V = k0_pay17 u V := rfl
theorem head_60 (u : Vec Ideal S1x512x2304 .bf16) (V : Vec Ideal S1x2304x256 .bf16) :
    k0_pay60 u V = k0_pay52 u V := rfl
theorem head_64 (u : Vec Ideal S1x512x2304 .bf16) (V : Vec Ideal S1x2304x256 .bf16) :
    k0_pay64 u V = k0_pay52 u V := rfl
theorem head_72 (u : Vec Ideal S1x512x2304 .bf16) (V : Vec Ideal S1x2304x256 .bf16) :
    k0_pay72 u V = k0_pay52 u V := rfl
theorem score_19  :
    k0_pay19 (k0_pay18 k0_pay12 q) k = k0_pay14 q k := rfl
theorem score_23  :
    k0_pay23 (k0_pay22 k0_pay12 q) k = k0_pay15 k0_pay12 q k := rfl
theorem score_27  :
    k0_pay27 (k0_pay26 k0_pay12 q k) = k0_pay14 q k := rfl
theorem score_31  :
    k0_pay31 (k0_pay30 k0_pay12 q k) = k0_pay15 k0_pay12 q k := rfl
theorem score_34  :
    k0_pay34 k0_pay12 q k = k0_pay14 q k := rfl
theorem score_37  :
    k0_pay37 k0_pay12 q k = k0_pay15 k0_pay12 q k := rfl
theorem score_41  :
    k0_pay41 k0_pay12 q k = k0_pay14 q k := rfl
theorem score_49  :
    k0_pay49 k0_pay12 q k = k0_pay14 q k := rfl
theorem score_53  :
    k0_pay53 k0_pay12 q k = k0_pay45 k0_pay12 q k := rfl
theorem score_65  :
    k0_pay65 k0_pay12 q k = k0_pay57 k0_pay12 q k := rfl
theorem score_69  :
    k0_pay69 k0_pay12 q k = k0_pay61 k0_pay12 q k := rfl
theorem result_77 (l : FVec Ideal S1x1 .f32) (a b : FVec Ideal S512x128 .f32) (g : Vec Ideal S1x128 .f32) :
    k0_pay77 (k0_pay75 l a b) (k0_pay76 l a b) g = k0_pay78 l a b g := rfl
theorem result_79 (l : FVec Ideal S1x1 .f32) (a b : FVec Ideal S512x128 .f32) (g : Vec Ideal S1x128 .f32) :
    k0_pay79 l a b g = k0_pay78 l a b g := rfl
theorem result_81 (l : FVec Ideal S1x1 .f32) (a b : FVec Ideal S512x128 .f32) (g : Vec Ideal S1x128 .f32) :
    k0_pay81 (k0_pay80 l a b g) = k0_pay78 l a b g := rfl
theorem result_83 (a b : FVec Ideal S512x128 .f32) :
    k0_pay83 k0_pay12 a b = k0_pay82 k0_pay12 a b := rfl
theorem result_84 (a b : FVec Ideal S512x128 .f32) :
    k0_pay84 k0_pay12 a b = k0_pay82 k0_pay12 a b := rfl
theorem result_85 (a b : FVec Ideal S512x128 .f32) :
    k0_pay85 k0_pay12 a b = k0_pay82 k0_pay12 a b := rfl

end Cert.KernelIdeal.Block

end
-- ==== Proof.Block.lean ====
/- One grid point of the kernel as a function of the blocks it loads: the carried scratch holds the values of the batch
   element with lanes of ones beside them, and the result block is the layer's attention, lane by lane. -/
module

public import proofs.«01_k».proof.Proof.Gen.KernelIdeal.Frame
public import proofs.«01_k».proof.Proof.Payloads
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal Cert.KernelIdeal.Gen Cert.Attn

theorem hz2 : (![0, 0] : Fin 2 → Nat) = fun _ => 0 := funext fun a => by fin_cases a <;> rfl

/-- The values with ones beside them: rows 0–3 hold the four heads of the differential attention, row 4 the two key-value
    heads of the grouped attention; the upper 128 lanes of every row are ones. -/
def values (x3 : Vec Ideal S1x2304x512 .bf16) (x5 : Vec Ideal S1x2304x128 .bf16) : Vec Ideal S5x2304x256 .bf16 := fun y =>
  if hd : (y 2).val < 128 then
    if hh : (y 0).val < 4 then x3 (ix3 0 (y 1) (lane128 ⟨(y 0).val, hh⟩ ⟨(y 2).val, hd⟩)) else x5 (ix3 0 (y 1) ⟨(y 2).val, hd⟩)
  else 1

/-- The result block of one grid point. -/
def result (x0 x1 : Vec Ideal S1x512x512 .bf16) (x2 x3 : Vec Ideal S1x2304x512 .bf16) (x4 x5 : Vec Ideal S1x2304x128 .bf16)
    (x6 : Vec Ideal S4x64 .f32) (x7 : Vec Ideal S1x128 .f32) : Vec Ideal S1x512x1024 .bf16 := fun y =>
  outK (fun l => x0 (ix3 0 (y 1) l)) (fun l => x1 (ix3 0 (y 1) l)) (fun j l => x2 (ix3 0 j l)) (fun j l => x3 (ix3 0 j l))
    (fun j l => x4 (ix3 0 j l)) (fun j l => x5 (ix3 0 j l)) (fun a l => x6 (ix2 a l)) (fun l => x7 (ix2 0 l)) (y 2)

theorem result_apply (x0 x1 : Vec Ideal S1x512x512 .bf16) (x2 x3 : Vec Ideal S1x2304x512 .bf16) (x4 x5 : Vec Ideal S1x2304x128 .bf16)
    (x6 : Vec Ideal S4x64 .f32) (x7 : Vec Ideal S1x128 .f32) (r : Fin 512) (l : Fin 1024) :
    result x0 x1 x2 x3 x4 x5 x6 x7 (ix3 0 r l) = outK (fun l => x0 (ix3 0 r l)) (fun l => x1 (ix3 0 r l)) (fun j l => x2 (ix3 0 j l))
      (fun j l => x3 (ix3 0 j l)) (fun j l => x4 (ix3 0 j l)) (fun j l => x5 (ix3 0 j l)) (fun a l => x6 (ix2 a l)) (fun l => x7 (ix2 0 l)) l := rfl

/-- A load of 128 of a query block's lanes. -/
theorem ld_q (x : Vec Ideal S1x512x512 .bf16) (o : ℕ) (inb) (r : Fin 512) (l : Fin 128) (ho : o + l.val < 512) :
    View.ld x (Rect.unit (s := S1x512x512) ![0, 0, o] ![1, 512, 128] inb) (ix3 0 r l) = x (ix3 0 r ⟨o + l.val, ho⟩) :=
  congrArg x (funext fun a => by fin_cases a <;> exact Fin.ext (by simp [Rect.unit, ix3]))

/-- A load of 128 of a key block's lanes. -/
theorem ld_k (x : Vec Ideal S1x2304x512 .bf16) (o : ℕ) (inb) (r : Fin 2304) (l : Fin 128) (ho : o + l.val < 512) :
    View.ld x (Rect.unit (s := S1x2304x512) ![0, 0, o] ![1, 2304, 128] inb) (ix3 0 r l) = x (ix3 0 r ⟨o + l.val, ho⟩) :=
  congrArg x (funext fun a => by fin_cases a <;> exact Fin.ext (by simp [Rect.unit, ix3]))

/-- A load of the grouped attention's keys, whole. -/
theorem ld_g (x : Vec Ideal S1x2304x128 .bf16) (inb) :
    View.ld x (Rect.unit (s := S1x2304x128) ![0, 0, 0] ![1, 2304, 128] inb) = x :=
  View.ld_unit_zero (S := S1x2304x128) (funext fun a => by fin_cases a <;> rfl) _ _

/-- A load of one row of the values. -/
theorem ld_v (x : Vec Ideal S5x2304x256 .bf16) (h : ℕ) (hh : h < 5) (inb) (j : Fin 2304) (l : Fin 256) :
    View.ld x (Rect.unit (s := S5x2304x256) ![h, 0, 0] ![1, 2304, 256] inb) (ix3 0 j l) = x (ix3 ⟨h, hh⟩ j l) :=
  congrArg x (funext fun a => by fin_cases a <;> exact Fin.ext (by simp [Rect.unit, ix3]))

/-- The result block's lane of a store at lane `o`. -/
theorem emb_o (o : ℕ) (inb) (r : Fin 512) (l : Fin 128) (ho : o + l.val < 1024) :
    (Rect.unit (s := S1x512x1024) ![0, 0, o] ![1, 512, 128] inb).emb (ix3 0 r l) = ix3 0 r ⟨o + l.val, ho⟩ := by
  funext a
  match a with
  | ⟨0, _⟩ => rfl
  | ⟨1, _⟩ => exact Fin.ext (show 0 + 1 * r.val = r.val by omega)
  | ⟨2, _⟩ => exact Fin.ext (show o + 1 * l.val = o + l.val by omega)

section

variable (x0 x1 : Vec Ideal S1x512x512 .bf16) (x2 x3 : Vec Ideal S1x2304x512 .bf16) (x4 x5 : Vec Ideal S1x2304x128 .bf16)
  (x6 : Vec Ideal S4x64 .f32) (x7 : Vec Ideal S1x128 .f32)

/-- One differential head of the kernel, even chunk. -/
theorem diff_even (h : Fin 4) (r : Fin 512) (d : Fin 128) (inb) (inb') (inb'') :
    k0_pay17 (k0_pay16 (k0_pay14 (View.ld x0 (Rect.unit (s := S1x512x512) ![0, 0, 128 * h.val] ![1, 512, 128] inb))
      (View.ld x2 (Rect.unit (s := S1x2304x512) ![0, 0, 128 * h.val] ![1, 2304, 128] inb'))))
      (View.ld (values x3 x5) (Rect.unit (s := S5x2304x256) ![h.val, 0, 0] ![1, 2304, 256] inb'')) (ix2 r d)
    = rowK (dScore (fun l => x0 (ix3 0 r l)) (fun j l => x2 (ix3 0 j l)) (half h 0)) (fun j => x3 (ix3 0 j (lane128 h d))) := by
  rw [head]
  · congr 1
    · funext j
      rw [score_ll]
      unfold dScore
      refine Finset.sum_congr rfl fun i _ => ?_
      rw [ld_q _ _ _ _ _ (by unfold lo; dsimp only; omega), ld_k _ _ _ _ _ (by unfold lo; dsimp only; omega)]
      have e : (⟨128 * h.val + (lo i).val, by unfold lo; dsimp only; omega⟩ : Fin 512) = lane64 (half h 0) i :=
        Fin.ext (by simp [lo, lane64, half]; omega)
      rw [e]
    · funext j
      rw [ld_v _ _ (by omega)]
      simp [values, ix3]
  · intro j
    rw [ld_v _ _ (by omega)]
    simp [values, ix3]

/-- One differential head of the kernel, odd chunk. -/
theorem diff_odd (h : Fin 4) (r : Fin 512) (d : Fin 128) (inb) (inb') (inb'') :
    k0_pay17 (k0_pay16 (k0_pay15 k0_pay12 (View.ld x0 (Rect.unit (s := S1x512x512) ![0, 0, 128 * h.val] ![1, 512, 128] inb))
      (View.ld x2 (Rect.unit (s := S1x2304x512) ![0, 0, 128 * h.val] ![1, 2304, 128] inb'))))
      (View.ld (values x3 x5) (Rect.unit (s := S5x2304x256) ![h.val, 0, 0] ![1, 2304, 256] inb'')) (ix2 r d)
    = rowK (dScore (fun l => x0 (ix3 0 r l)) (fun j l => x2 (ix3 0 j l)) (half h 1)) (fun j => x3 (ix3 0 j (lane128 h d))) := by
  rw [head]
  · congr 1
    · funext j
      rw [score_uu]
      unfold dScore
      refine Finset.sum_congr rfl fun i _ => ?_
      rw [ld_q _ _ _ _ _ (by unfold hi; dsimp only; omega), ld_k _ _ _ _ _ (by unfold hi; dsimp only; omega)]
      have e : (⟨128 * h.val + (hi i).val, by unfold hi; dsimp only; omega⟩ : Fin 512) = lane64 (half h 1) i :=
        Fin.ext (by simp [hi, lane64, half]; omega)
      rw [e]
    · funext j
      rw [ld_v _ _ (by omega)]
      simp [values, ix3]
  · intro j
    rw [ld_v _ _ (by omega)]
    simp [values, ix3]

/-- One differential result block of the kernel. -/
theorem diff_piece (h : Fin 4) (o : ℕ) (ho : o = 128 * h.val) (n : ℕ) (hn : n = h.val) (inb) (inb') (inb'') (inb3) (inb4) (inb5)
    (x : S1x512x128.Idx) :
    k0_pay78 (k0_pay13 (View.ld x6 (Rect.unit (s := S4x64) ![0, 0] ![4, 64] inb4)))
      (k0_pay17 (k0_pay16 (k0_pay14 (View.ld x0 (Rect.unit (s := S1x512x512) ![0, 0, o] ![1, 512, 128] inb))
        (View.ld x2 (Rect.unit (s := S1x2304x512) ![0, 0, o] ![1, 2304, 128] inb'))))
        (View.ld (values x3 x5) (Rect.unit (s := S5x2304x256) ![n, 0, 0] ![1, 2304, 256] inb'')))
      (k0_pay17 (k0_pay16 (k0_pay15 k0_pay12 (View.ld x0 (Rect.unit (s := S1x512x512) ![0, 0, o] ![1, 512, 128] inb))
        (View.ld x2 (Rect.unit (s := S1x2304x512) ![0, 0, o] ![1, 2304, 128] inb'))))
        (View.ld (values x3 x5) (Rect.unit (s := S5x2304x256) ![n, 0, 0] ![1, 2304, 256] inb'')))
      (View.ld x7 (Rect.unit (s := S1x128) ![0, 0] ![1, 128] inb5)) x
    = result x0 x1 x2 x3 x4 x5 x6 x7 ((Rect.unit (s := S1x512x1024) ![0, 0, o] ![1, 512, 128] inb3).emb x) := by
  subst ho hn
  obtain ⟨r, d, rfl⟩ : ∃ (r : Fin 512) (d : Fin 128), x = ix3 0 r d := ⟨x 1, x 2, by rw [eq_ix3 x]; congr 1; exact Subsingleton.elim _ _⟩
  rw [View.ld_unit_zero (S := S4x64) hz2, View.ld_unit_zero (S := S1x128) hz2, finish_diff, lam_apply, emb_o _ _ _ _ (by omega),
    result_apply, outK_diff _ _ _ _ _ _ _ _ _ h d rfl]
  simp only [diff_even, diff_odd]
  rfl

/-- An even grouped head whose keys are the lower lanes. -/
theorem group_even_low (t : Fin 4) (ht : t.val < 2) (r : Fin 512) (d : Fin 64) (inb) (inb'') :
    k0_pay17 (k0_pay16 (k0_pay14 (View.ld x1 (Rect.unit (s := S1x512x512) ![0, 0, 128 * t.val] ![1, 512, 128] inb)) x4))
      (View.ld (values x3 x5) (Rect.unit (s := S5x2304x256) ![4, 0, 0] ![1, 2304, 256] inb'')) (ix2 r (lo d))
    = rowK (gScore (fun l => x1 (ix3 0 r l)) (fun j l => x4 (ix3 0 j l)) (half t 0)) (fun j => x5 (ix3 0 j (kvLane (half t 0) d))) := by
  rw [head]
  · congr 1
    · funext j
      rw [score_ll]
      unfold gScore
      refine Finset.sum_congr rfl fun i _ => ?_
      rw [ld_q _ _ _ _ _ (by unfold lo; dsimp only; omega)]
      have e : (⟨128 * t.val + (lo i).val, by unfold lo; dsimp only; omega⟩ : Fin 512) = lane64 (half t 0) i :=
        Fin.ext (by simp [lo, lane64, half]; omega)
      have e' : lo i = kvLane (half t 0) i := Fin.ext (by simp [lo, kvLane, half]; omega)
      rw [e, e']
    · funext j
      rw [ld_v _ _ (by omega)]
      have e' : lo d = kvLane (half t 0) d := Fin.ext (by simp [lo, kvLane, half]; omega)
      rw [← e']
      have hlt := (lo d).isLt
      simp [values, ix3, hlt]
  · intro j
    rw [ld_v _ _ (by omega)]
    simp [values, ix3]

/-- An odd grouped head whose keys are the lower lanes. -/
theorem group_odd_low (t : Fin 4) (ht : t.val < 2) (r : Fin 512) (d : Fin 64) (inb) (inb'') :
    k0_pay52 (k0_pay16 (k0_pay45 k0_pay12 (View.ld x1 (Rect.unit (s := S1x512x512) ![0, 0, 128 * t.val] ![1, 512, 128] inb)) x4))
      (View.ld (values x3 x5) (Rect.unit (s := S5x2304x256) ![4, 0, 0] ![1, 2304, 256] inb'')) (ix2 r (hi d))
    = rowK (gScore (fun l => x1 (ix3 0 r l)) (fun j l => x4 (ix3 0 j l)) (half t 1)) (fun j => x5 (ix3 0 j (kvLane (half t 1) d))) := by
  rw [turned_hi, head]
  · congr 1
    · funext j
      rw [score_ul]
      unfold gScore
      refine Finset.sum_congr rfl fun i _ => ?_
      rw [ld_q _ _ _ _ _ (by unfold hi; dsimp only; omega)]
      have e : (⟨128 * t.val + (hi i).val, by unfold hi; dsimp only; omega⟩ : Fin 512) = lane64 (half t 1) i :=
        Fin.ext (by simp [hi, lane64, half]; omega)
      have e' : lo i = kvLane (half t 1) i := Fin.ext (by simp [lo, kvLane, half]; omega)
      rw [e, e']
    · funext j
      rw [ld_v _ _ (by omega)]
      have e' : lo d = kvLane (half t 1) d := Fin.ext (by simp [lo, kvLane, half]; omega)
      rw [← e']
      have hlt := (lo d).isLt
      simp [values, ix3, hlt]
  · intro j
    rw [ld_v _ _ (by omega)]
    simp [values, ix3]

/-- An even grouped head whose keys are the upper lanes. -/
theorem group_even_high (t : Fin 4) (ht : 2 ≤ t.val) (r : Fin 512) (d : Fin 64) (inb) (inb'') :
    k0_pay52 (k0_pay16 (k0_pay57 k0_pay12 (View.ld x1 (Rect.unit (s := S1x512x512) ![0, 0, 128 * t.val] ![1, 512, 128] inb)) x4))
      (View.ld (values x3 x5) (Rect.unit (s := S5x2304x256) ![4, 0, 0] ![1, 2304, 256] inb'')) (ix2 r (lo d))
    = rowK (gScore (fun l => x1 (ix3 0 r l)) (fun j l => x4 (ix3 0 j l)) (half t 0)) (fun j => x5 (ix3 0 j (kvLane (half t 0) d))) := by
  rw [turned_lo, head]
  · congr 1
    · funext j
      rw [score_lu]
      unfold gScore
      refine Finset.sum_congr rfl fun i _ => ?_
      rw [ld_q _ _ _ _ _ (by unfold lo; dsimp only; omega)]
      have e : (⟨128 * t.val + (lo i).val, by unfold lo; dsimp only; omega⟩ : Fin 512) = lane64 (half t 0) i :=
        Fin.ext (by simp [lo, lane64, half]; omega)
      have e' : hi i = kvLane (half t 0) i := Fin.ext (by simp [hi, kvLane, half]; omega)
      rw [e, e']
    · funext j
      rw [ld_v _ _ (by omega)]
      have e' : hi d = kvLane (half t 0) d := Fin.ext (by simp [hi, kvLane, half]; omega)
      rw [← e']
      have hlt := (hi d).isLt
      simp [values, ix3, hlt]
  · intro j
    rw [ld_v _ _ (by omega)]
    simp [values, ix3]

/-- An odd grouped head whose keys are the upper lanes. -/
theorem group_odd_high (t : Fin 4) (ht : 2 ≤ t.val) (r : Fin 512) (d : Fin 64) (inb) (inb'') :
    k0_pay17 (k0_pay16 (k0_pay61 k0_pay12 (View.ld x1 (Rect.unit (s := S1x512x512) ![0, 0, 128 * t.val] ![1, 512, 128] inb)) x4))
      (View.ld (values x3 x5) (Rect.unit (s := S5x2304x256) ![4, 0, 0] ![1, 2304, 256] inb'')) (ix2 r (hi d))
    = rowK (gScore (fun l => x1 (ix3 0 r l)) (fun j l => x4 (ix3 0 j l)) (half t 1)) (fun j => x5 (ix3 0 j (kvLane (half t 1) d))) := by
  rw [head]
  · congr 1
    · funext j
      rw [score_uu']
      unfold gScore
      refine Finset.sum_congr rfl fun i _ => ?_
      rw [ld_q _ _ _ _ _ (by unfold hi; dsimp only; omega)]
      have e : (⟨128 * t.val + (hi i).val, by unfold hi; dsimp only; omega⟩ : Fin 512) = lane64 (half t 1) i :=
        Fin.ext (by simp [hi, lane64, half]; omega)
      have e' : hi i = kvLane (half t 1) i := Fin.ext (by simp [hi, kvLane, half]; omega)
      rw [e, e']
    · funext j
      rw [ld_v _ _ (by omega)]
      have e' : hi d = kvLane (half t 1) d := Fin.ext (by simp [hi, kvLane, half]; omega)
      rw [← e']
      have hlt := (hi d).isLt
      simp [values, ix3, hlt]
  · intro j
    rw [ld_v _ _ (by omega)]
    simp [values, ix3]

/-- One grouped result block of the kernel, its keys the lower lanes. -/
theorem group_piece_low (t : Fin 4) (ht : t.val < 2) (o o' : ℕ) (ho : o = 128 * t.val) (ho' : o' = 512 + 128 * t.val) (inb) (inb'') (inb3)
    (x : S1x512x128.Idx) :
    k0_pay82 k0_pay12
      (k0_pay17 (k0_pay16 (k0_pay14 (View.ld x1 (Rect.unit (s := S1x512x512) ![0, 0, o] ![1, 512, 128] inb)) x4))
        (View.ld (values x3 x5) (Rect.unit (s := S5x2304x256) ![4, 0, 0] ![1, 2304, 256] inb'')))
      (k0_pay52 (k0_pay16 (k0_pay45 k0_pay12 (View.ld x1 (Rect.unit (s := S1x512x512) ![0, 0, o] ![1, 512, 128] inb)) x4))
        (View.ld (values x3 x5) (Rect.unit (s := S5x2304x256) ![4, 0, 0] ![1, 2304, 256] inb''))) x
    = result x0 x1 x2 x3 x4 x5 x6 x7 ((Rect.unit (s := S1x512x1024) ![0, 0, o'] ![1, 512, 128] inb3).emb x) := by
  subst ho ho'
  obtain ⟨r, d, rfl⟩ : ∃ (r : Fin 512) (d : Fin 128), x = ix3 0 r d := ⟨x 1, x 2, by rw [eq_ix3 x]; congr 1; exact Subsingleton.elim _ _⟩
  rw [emb_o _ _ _ _ (by omega), result_apply]
  rcases lane_cases d with ⟨i, rfl⟩ | ⟨i, rfl⟩
  · rw [outK_group _ _ _ _ _ _ _ _ _ (half t 0) i (by simp [lo, half]; omega), finish_lo, group_even_low x1 x3 x4 x5 t ht]
  · rw [outK_group _ _ _ _ _ _ _ _ _ (half t 1) i (by simp [hi, half]; omega), finish_hi, group_odd_low x1 x3 x4 x5 t ht]

/-- One grouped result block of the kernel, its keys the upper lanes. -/
theorem group_piece_high (t : Fin 4) (ht : 2 ≤ t.val) (o o' : ℕ) (ho : o = 128 * t.val) (ho' : o' = 512 + 128 * t.val) (inb) (inb'') (inb3)
    (x : S1x512x128.Idx) :
    k0_pay82 k0_pay12
      (k0_pay52 (k0_pay16 (k0_pay57 k0_pay12 (View.ld x1 (Rect.unit (s := S1x512x512) ![0, 0, o] ![1, 512, 128] inb)) x4))
        (View.ld (values x3 x5) (Rect.unit (s := S5x2304x256) ![4, 0, 0] ![1, 2304, 256] inb'')))
      (k0_pay17 (k0_pay16 (k0_pay61 k0_pay12 (View.ld x1 (Rect.unit (s := S1x512x512) ![0, 0, o] ![1, 512, 128] inb)) x4))
        (View.ld (values x3 x5) (Rect.unit (s := S5x2304x256) ![4, 0, 0] ![1, 2304, 256] inb''))) x
    = result x0 x1 x2 x3 x4 x5 x6 x7 ((Rect.unit (s := S1x512x1024) ![0, 0, o'] ![1, 512, 128] inb3).emb x) := by
  subst ho ho'
  obtain ⟨r, d, rfl⟩ : ∃ (r : Fin 512) (d : Fin 128), x = ix3 0 r d := ⟨x 1, x 2, by rw [eq_ix3 x]; congr 1; exact Subsingleton.elim _ _⟩
  rw [emb_o _ _ _ _ (by omega), result_apply]
  rcases lane_cases d with ⟨i, rfl⟩ | ⟨i, rfl⟩
  · rw [outK_group _ _ _ _ _ _ _ _ _ (half t 0) i (by simp [lo, half]; omega), finish_lo, group_even_high x1 x3 x4 x5 t ht]
  · rw [outK_group _ _ _ _ _ _ _ _ _ (half t 1) i (by simp [hi, half]; omega), finish_hi, group_odd_high x1 x3 x4 x5 t ht]

end

end Cert.KernelIdeal.Block

end
-- ==== Proof.BlockA.lean ====
/- One grid point of the kernel as a function of the blocks it loads: the carried scratch holds the values of the batch
   element with lanes of ones beside them, and the result block is the layer's attention, lane by lane. -/
module

public import proofs.«01_k».proof.Proof.Gen.KernelIdeal.Frame
public import proofs.«01_k».proof.Proof.Block
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal Cert.KernelIdeal.Gen Cert.Attn

/-- The pattern of 1. -/
theorem ofBits_one : Ideal.ofBits .bf16 0x3F80#16 = 1 := by
  simp [Ideal.ofBits, Ideal.ieee]
  rw [← EReal.coe_mul]
  norm_num

/-- Storing values stores them as loaded. -/
theorem stored (v : Vec Ideal S1x2304x128 .bf16) (j : Fin 2304) (l : Fin 128) : k0_pay2 v (ix3 0 j l) = v (ix3 0 j l) := by
  pointwise [k0_pay2]

/-- The lanes beside the values are stored ones. -/
theorem stored_one (j : Fin 2304) (l : Fin 128) : (k0_pay3 (F := Ideal)) (ix3 0 j l) = 1 := by
  pointwise [k0_pay3, k0_pay1, ofBits_one]

theorem stored_4 (v : Vec Ideal S1x2304x128 .bf16) : k0_pay4 v = k0_pay2 v := rfl
theorem stored_6 (v : Vec Ideal S1x2304x128 .bf16) : k0_pay6 v = k0_pay2 v := rfl
theorem stored_8 (v : Vec Ideal S1x2304x128 .bf16) : k0_pay8 v = k0_pay2 v := rfl
theorem stored_10 (v : Vec Ideal S1x2304x128 .bf16) : k0_pay10 v = k0_pay2 v := rfl
theorem stored_5 : (k0_pay5 (F := Ideal)) = k0_pay3 := rfl
theorem stored_7 : (k0_pay7 (F := Ideal)) = k0_pay3 := rfl
theorem stored_9 : k0_pay9 (k0_pay1 (F := Ideal)) = k0_pay3 := rfl
theorem stored_11 : k0_pay11 (k0_pay1 (F := Ideal)) = k0_pay3 := rfl

/-- The lane of the carried scratch that a store at row `n`, lane `o` fills. -/
theorem emb_v (n : ℕ) (hn : n < 5) (o : ℕ) (inb) (j : Fin 2304) (l : Fin 128) (ho : o + l.val < 256) :
    (Rect.unit (s := S5x2304x256) ![n, 0, o] ![1, 2304, 128] inb).emb (ix3 0 j l) = ix3 ⟨n, hn⟩ j ⟨o + l.val, ho⟩ := by
  funext a
  match a with
  | ⟨0, _⟩ => rfl
  | ⟨1, _⟩ => exact Fin.ext (show 0 + 1 * j.val = j.val by omega)
  | ⟨2, _⟩ => exact Fin.ext (show o + 1 * l.val = o + l.val by omega)

/-- The ones of row `n`. -/
theorem ones_piece (x3 : Vec Ideal S1x2304x512 .bf16) (x5 : Vec Ideal S1x2304x128 .bf16) (n : ℕ) (hn : n < 5) (inb) (x : S1x2304x128.Idx) :
    (k0_pay3 (F := Ideal)) x = values x3 x5 ((Rect.unit (s := S5x2304x256) ![n, 0, 128] ![1, 2304, 128] inb).emb x) := by
  obtain ⟨j, l, rfl⟩ : ∃ (j : Fin 2304) (l : Fin 128), x = ix3 0 j l := ⟨x 1, x 2, by rw [eq_ix3 x]; congr 1; exact Subsingleton.elim _ _⟩
  rw [stored_one, emb_v _ hn _ _ _ _ (by omega)]
  simp [values, ix3]

/-- The values of one head of the differential attention. -/
theorem head_piece (x3 : Vec Ideal S1x2304x512 .bf16) (x5 : Vec Ideal S1x2304x128 .bf16) (n : ℕ) (hn : n < 4) (o : ℕ) (ho : o = 128 * n)
    (inb) (inb') (x : S1x2304x128.Idx) :
    k0_pay2 (View.ld x3 (Rect.unit (s := S1x2304x512) ![0, 0, o] ![1, 2304, 128] inb')) x
      = values x3 x5 ((Rect.unit (s := S5x2304x256) ![n, 0, 0] ![1, 2304, 128] inb).emb x) := by
  subst ho
  obtain ⟨j, l, rfl⟩ : ∃ (j : Fin 2304) (l : Fin 128), x = ix3 0 j l := ⟨x 1, x 2, by rw [eq_ix3 x]; congr 1; exact Subsingleton.elim _ _⟩
  rw [stored, emb_v _ (by omega) _ _ _ _ (by omega), ld_k _ _ _ _ _ (by omega)]
  simp [values, ix3, hn, lane128]

/-- The values of the grouped attention. -/
theorem group_values (x3 : Vec Ideal S1x2304x512 .bf16) (x5 : Vec Ideal S1x2304x128 .bf16) (inb) (x : S1x2304x128.Idx) :
    k0_pay2 x5 x = values x3 x5 ((Rect.unit (s := S5x2304x256) ![4, 0, 0] ![1, 2304, 128] inb).emb x) := by
  obtain ⟨j, l, rfl⟩ : ∃ (j : Fin 2304) (l : Fin 128), x = ix3 0 j l := ⟨x 1, x 2, by rw [eq_ix3 x]; congr 1; exact Subsingleton.elim _ _⟩
  rw [stored, emb_v _ (by omega) _ _ _ _ (by omega)]
  simp [values, ix3]

/-- What a batch element's first point stores in the carried scratch, piece by piece. -/
theorem pieces_A (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x2304x512 .bf16) (harg4 : arg4.IsWhole) (arg5 : Memref sig .tc .vmem S1x2304x512 .bf16) (harg5 : arg5.IsWhole) (arg6 : Memref sig .tc .vmem S1x2304x128 .bf16) (harg6 : arg6.IsWhole) (arg7 : Memref sig .tc .vmem S1x2304x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S5x2304x256 .bf16) (harg11 : arg11.IsWhole) (arg12 : Memref sig .tc .vmem S2x512x2304 .f32) (harg12 : arg12.IsWhole) (arg13 : Memref sig .tc .vmem S2x512x2304 .bf16) (harg13 : arg13.IsWhole) (hc0 : cond0_0 i)
    (x0 : Vec Ideal S1x512x512 .bf16) (x1 : Vec Ideal S1x512x512 .bf16) (x2 : Vec Ideal S1x2304x512 .bf16) (x3 : Vec Ideal S1x2304x512 .bf16) (x4 : Vec Ideal S1x2304x128 .bf16) (x5 : Vec Ideal S1x2304x128 .bf16) (x6 : Vec Ideal S4x64 .f32) (x7 : Vec Ideal S1x128 .f32) :
    View.PiecesOf (values x3 x5) (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1 := by
  unfold kernelRun0_A
  dsimp only
  sl_unfold_words
  simp only [View.readAt_eq_ld, harg2.read_unread, harg3.read_unread, harg4.read_unread, harg5.read_unread, harg6.read_unread, harg7.read_unread, harg8.read_unread, harg9.read_unread, ld_g, stored_4, stored_5, stored_6, stored_7, stored_8, stored_9, stored_10, stored_11]
  exact ⟨fun x => ones_piece x3 x5 4 (by decide) inb_S5x2304x256_S1x2304x128_4_0_128 x,
    fun x => group_values x3 x5 inb_S5x2304x256_S1x2304x128_4_0_0 x,
    fun x => ones_piece x3 x5 3 (by decide) inb_S5x2304x256_S1x2304x128_3_0_128 x,
    fun x => head_piece x3 x5 3 (by decide) 384 rfl inb_S5x2304x256_S1x2304x128_3_0_0 _ x,
    fun x => ones_piece x3 x5 2 (by decide) inb_S5x2304x256_S1x2304x128_2_0_128 x,
    fun x => head_piece x3 x5 2 (by decide) 256 rfl inb_S5x2304x256_S1x2304x128_2_0_0 _ x,
    fun x => ones_piece x3 x5 1 (by decide) inb_S5x2304x256_S1x2304x128_1_0_128 x,
    fun x => head_piece x3 x5 1 (by decide) 128 rfl inb_S5x2304x256_S1x2304x128_1_0_0 _ x,
    fun x => ones_piece x3 x5 0 (by decide) inb_S5x2304x256_S1x2304x128_0_0_128 x,
    fun x => head_piece x3 x5 0 (by decide) 0 rfl inb_S5x2304x256_S1x2304x128_0_0_0 _ x, trivial⟩

/-- A batch element's first point leaves its values in the carried scratch. -/
theorem canon_A (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x2304x512 .bf16) (harg4 : arg4.IsWhole) (arg5 : Memref sig .tc .vmem S1x2304x512 .bf16) (harg5 : arg5.IsWhole) (arg6 : Memref sig .tc .vmem S1x2304x128 .bf16) (harg6 : arg6.IsWhole) (arg7 : Memref sig .tc .vmem S1x2304x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S5x2304x256 .bf16) (harg11 : arg11.IsWhole) (arg12 : Memref sig .tc .vmem S2x512x2304 .f32) (harg12 : arg12.IsWhole) (arg13 : Memref sig .tc .vmem S2x512x2304 .bf16) (harg13 : arg13.IsWhole) (hc0 : cond0_0 i)
    (x0 : Vec Ideal S1x512x512 .bf16) (x1 : Vec Ideal S1x512x512 .bf16) (x2 : Vec Ideal S1x2304x512 .bf16) (x3 : Vec Ideal S1x2304x512 .bf16) (x4 : Vec Ideal S1x2304x128 .bf16) (x5 : Vec Ideal S1x2304x128 .bf16) (x6 : Vec Ideal S4x64 .f32) (x7 : Vec Ideal S1x128 .f32) :
    View.canon (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1 = values x3 x5 := by
  funext y
  rw [← List.append_nil (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1]
  exact View.canon_append_of_piecesOf _ _ _ (pieces_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7) y (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 y)

/-- A batch element's first point leaves its values in the carried scratch. -/
theorem scratch_A (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x2304x512 .bf16) (harg4 : arg4.IsWhole) (arg5 : Memref sig .tc .vmem S1x2304x512 .bf16) (harg5 : arg5.IsWhole) (arg6 : Memref sig .tc .vmem S1x2304x128 .bf16) (harg6 : arg6.IsWhole) (arg7 : Memref sig .tc .vmem S1x2304x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S5x2304x256 .bf16) (harg11 : arg11.IsWhole) (arg12 : Memref sig .tc .vmem S2x512x2304 .f32) (harg12 : arg12.IsWhole) (arg13 : Memref sig .tc .vmem S2x512x2304 .bf16) (harg13 : arg13.IsWhole) (hc0 : cond0_0 i)
    (x0 : Vec Ideal S1x512x512 .bf16) (x1 : Vec Ideal S1x512x512 .bf16) (x2 : Vec Ideal S1x2304x512 .bf16) (x3 : Vec Ideal S1x2304x512 .bf16) (x4 : Vec Ideal S1x2304x128 .bf16) (x5 : Vec Ideal S1x2304x128 .bf16) (x6 : Vec Ideal S4x64 .f32) (x7 : Vec Ideal S1x128 .f32) :
    sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = values x3 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  exact canon_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7

/-- A batch element's first point leaves the result block. -/
theorem out_A (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x2304x512 .bf16) (harg4 : arg4.IsWhole) (arg5 : Memref sig .tc .vmem S1x2304x512 .bf16) (harg5 : arg5.IsWhole) (arg6 : Memref sig .tc .vmem S1x2304x128 .bf16) (harg6 : arg6.IsWhole) (arg7 : Memref sig .tc .vmem S1x2304x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S5x2304x256 .bf16) (harg11 : arg11.IsWhole) (arg12 : Memref sig .tc .vmem S2x512x2304 .f32) (harg12 : arg12.IsWhole) (arg13 : Memref sig .tc .vmem S2x512x2304 .bf16) (harg13 : arg13.IsWhole) (hc0 : cond0_0 i)
    (x0 : Vec Ideal S1x512x512 .bf16) (x1 : Vec Ideal S1x512x512 .bf16) (x2 : Vec Ideal S1x2304x512 .bf16) (x3 : Vec Ideal S1x2304x512 .bf16) (x4 : Vec Ideal S1x2304x128 .bf16) (x5 : Vec Ideal S1x2304x128 .bf16) (x6 : Vec Ideal S4x64 .f32) (x7 : Vec Ideal S1x128 .f32) :
    out0_A_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = result x0 x1 x2 x3 x4 x5 x6 x7 := by
  have hV : ∀ r : Rect S5x2304x256, arg11.view.readCov (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1 r.toLoadRect
      = View.ld (values x3 x5) r := fun r => by
    rw [View.readCov_eq_canon_ld _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7), canon_A]
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  funext y
  rw [← List.append_nil (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1]
  refine View.canon_append_of_piecesOf _ _ _ ?_ y (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 y)
  revert hV
  unfold kernelRun0_A
  dsimp only
  sl_unfold_words
  simp only [View.readAt_eq_ld, harg2.read_unread, harg3.read_unread, harg4.read_unread, harg5.read_unread, harg6.read_unread, harg7.read_unread, harg8.read_unread, harg9.read_unread]
  intro hV
  simp only [hV]
  simp (disch := decide) only [View.readCov_skip, View.readCov_cons_toLoadRect]
  simp only [ld_g, head_21, head_25, head_29, head_33, head_36, head_40, head_44, head_48, head_56, head_60, head_64, head_68, head_72, head_74, result_77, result_79, result_81, result_83, result_84, result_85, score_19, score_23, score_27, score_31, score_34, score_37, score_41, score_49, score_53, score_65, score_69, weight_20, weight_24, weight_28, weight_32, weight_35, weight_39, weight_43, weight_47, weight_51, weight_55, weight_59, weight_63, weight_67, weight_71, weight_73]
  refine ⟨fun x => ?_, fun x => ?_, fun x => ?_, fun x => ?_, fun x => ?_, fun x => ?_, fun x => ?_, fun x => ?_, trivial⟩
  · exact group_piece_high x0 x1 x2 x3 x4 x5 x6 x7 3 (by decide) 384 896 rfl rfl _ _ inb_S1x512x1024_S1x512x128_0_0_896 x
  · exact group_piece_high x0 x1 x2 x3 x4 x5 x6 x7 2 (by decide) 256 768 rfl rfl _ _ inb_S1x512x1024_S1x512x128_0_0_768 x
  · exact group_piece_low x0 x1 x2 x3 x4 x5 x6 x7 1 (by decide) 128 640 rfl rfl _ _ inb_S1x512x1024_S1x512x128_0_0_640 x
  · exact group_piece_low x0 x1 x2 x3 x4 x5 x6 x7 0 (by decide) 0 512 rfl rfl _ _ inb_S1x512x1024_S1x512x128_0_0_512 x
  · exact diff_piece x0 x1 x2 x3 x4 x5 x6 x7 3 384 rfl 3 rfl _ _ _ inb_S1x512x1024_S1x512x128_0_0_384 _ _ x
  · exact diff_piece x0 x1 x2 x3 x4 x5 x6 x7 2 256 rfl 2 rfl _ _ _ inb_S1x512x1024_S1x512x128_0_0_256 _ _ x
  · exact diff_piece x0 x1 x2 x3 x4 x5 x6 x7 1 128 rfl 1 rfl _ _ _ inb_S1x512x1024_S1x512x128_0_0_128 _ _ x
  · exact diff_piece x0 x1 x2 x3 x4 x5 x6 x7 0 0 rfl 0 rfl _ _ _ inb_S1x512x1024_S1x512x128_0_0_0 _ _ x

end Cert.KernelIdeal.Block

end
-- ==== Proof.BlockB.lean ====
/- One grid point of the kernel as a function of the blocks it loads: the carried scratch holds the values of the batch
   element with lanes of ones beside them, and the result block is the layer's attention, lane by lane. -/
module

public import proofs.«01_k».proof.Proof.Gen.KernelIdeal.Frame
public import proofs.«01_k».proof.Proof.Block
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal Cert.KernelIdeal.Gen Cert.Attn

/-- A point that is not its batch element's first, over the values in the carried scratch, leaves the result block. -/
theorem out_B (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x2304x512 .bf16) (harg4 : arg4.IsWhole) (arg5 : Memref sig .tc .vmem S1x2304x512 .bf16) (harg5 : arg5.IsWhole) (arg6 : Memref sig .tc .vmem S1x2304x128 .bf16) (harg6 : arg6.IsWhole) (arg7 : Memref sig .tc .vmem S1x2304x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S5x2304x256 .bf16) (harg11 : arg11.IsWhole) (arg12 : Memref sig .tc .vmem S2x512x2304 .f32) (harg12 : arg12.IsWhole) (arg13 : Memref sig .tc .vmem S2x512x2304 .bf16) (harg13 : arg13.IsWhole) (hc0 : ¬cond0_0 i)
    (x0 : Vec Ideal S1x512x512 .bf16) (x1 : Vec Ideal S1x512x512 .bf16) (x2 : Vec Ideal S1x2304x512 .bf16) (x3 : Vec Ideal S1x2304x512 .bf16) (x4 : Vec Ideal S1x2304x128 .bf16) (x5 : Vec Ideal S1x2304x128 .bf16) (x6 : Vec Ideal S4x64 .f32) (x7 : Vec Ideal S1x128 .f32) :
    out0_B_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (values x3 x5) = result x0 x1 x2 x3 x4 x5 x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (values x3 x5))]
  funext y
  rw [← List.append_nil (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (values x3 x5)).1]
  refine View.canon_append_of_piecesOf _ _ _ ?_ y (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (values x3 x5) y)
  unfold kernelRun0_B
  dsimp only
  sl_unfold_words
  simp only [View.readAt_eq_ld, harg2.read_unread, harg3.read_unread, harg4.read_unread, harg5.read_unread, harg6.read_unread, harg7.read_unread, harg8.read_unread, harg9.read_unread, harg11.read_unread]
  simp (disch := decide) only [View.readCov_skip, View.readCov_cons_toLoadRect]
  simp only [ld_g, head_21, head_25, head_29, head_33, head_36, head_40, head_44, head_48, head_56, head_60, head_64, head_68, head_72, head_74, result_77, result_79, result_81, result_83, result_84, result_85, score_19, score_23, score_27, score_31, score_34, score_37, score_41, score_49, score_53, score_65, score_69, weight_20, weight_24, weight_28, weight_32, weight_35, weight_39, weight_43, weight_47, weight_51, weight_55, weight_59, weight_63, weight_67, weight_71, weight_73]
  refine ⟨fun x => ?_, fun x => ?_, fun x => ?_, fun x => ?_, fun x => ?_, fun x => ?_, fun x => ?_, fun x => ?_, trivial⟩
  · exact group_piece_high x0 x1 x2 x3 x4 x5 x6 x7 3 (by decide) 384 896 rfl rfl _ _ inb_S1x512x1024_S1x512x128_0_0_896 x
  · exact group_piece_high x0 x1 x2 x3 x4 x5 x6 x7 2 (by decide) 256 768 rfl rfl _ _ inb_S1x512x1024_S1x512x128_0_0_768 x
  · exact group_piece_low x0 x1 x2 x3 x4 x5 x6 x7 1 (by decide) 128 640 rfl rfl _ _ inb_S1x512x1024_S1x512x128_0_0_640 x
  · exact group_piece_low x0 x1 x2 x3 x4 x5 x6 x7 0 (by decide) 0 512 rfl rfl _ _ inb_S1x512x1024_S1x512x128_0_0_512 x
  · exact diff_piece x0 x1 x2 x3 x4 x5 x6 x7 3 384 rfl 3 rfl _ _ _ inb_S1x512x1024_S1x512x128_0_0_384 _ _ x
  · exact diff_piece x0 x1 x2 x3 x4 x5 x6 x7 2 256 rfl 2 rfl _ _ _ inb_S1x512x1024_S1x512x128_0_0_256 _ _ x
  · exact diff_piece x0 x1 x2 x3 x4 x5 x6 x7 1 128 rfl 1 rfl _ _ _ inb_S1x512x1024_S1x512x128_0_0_128 _ _ x
  · exact diff_piece x0 x1 x2 x3 x4 x5 x6 x7 0 0 rfl 0 rfl _ _ _ inb_S1x512x1024_S1x512x128_0_0_0 _ _ x

end Cert.KernelIdeal.Block

end
-- ==== Proof.Whole.lean ====
/- The kernel's whole run: the block each window holds at each grid point, the carried scratch at every point, and so the
   result array, entry by entry, from the arguments. -/
module

public import proofs.«01_k».proof.Proof.Gen.KernelIdeal.Value
public import proofs.«01_k».proof.Proof.BlockA
public import proofs.«01_k».proof.Proof.BlockB
public import Idealize.ShloMosaic.Lib.Pointwise
public import Idealize.ShloMosaic.Lib.StableHlo.Run
public import Idealize.ShloMosaic.Lib.Tactic

@[expose] public section

set_option maxRecDepth 16384

noncomputable section

namespace Cert.KernelIdeal.Whole

open Idealize.ShloMosaic Idealize.ShloMosaic.TcCoe Idealize.SL.Sem
open Cert.KernelIdeal Cert.KernelIdeal.Gen Cert.KernelIdeal.Block Cert.Attn

variable (m : (ℓ : Loc nD τ sig) → Buf (Elt Ideal) ℓ) (c : Dev nD)

/-- The batch element of a grid point. -/
def bat (t : Fin cfg0.N) : Fin 32 := ⟨t.val / 4, by have h := lt_of_lt_of_eq t.isLt (show cfg0.N = 128 from N_0); omega⟩

/-- The row of the array that row `r` of a grid point's query blocks is. -/
def row (t : Fin cfg0.N) (r : Fin 512) : Fin 2048 := ⟨512 * (t.val % 4) + r.val, by omega⟩

theorem index0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0)

theorem index1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, win0_1.index t (0 : Fin 3) = t.val / 4 ∧ win0_1.index t (1 : Fin 3) = t.val % 4 ∧ win0_1.index t (2 : Fin 3) = 0)

theorem index2 : ∀ t : Fin cfg0.N, win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0)

theorem index3 : ∀ t : Fin cfg0.N, win0_3.index t (0 : Fin 3) = t.val / 4 ∧ win0_3.index t (1 : Fin 3) = 0 ∧ win0_3.index t (2 : Fin 3) = 0 :=
  (by decide +kernel : ∀ t : Fin grid0.N, win0_3.index t (0 : Fin 3) = t.val / 4 ∧ win0_3.index t (1 : Fin 3) = 0 ∧ win0_3.index t (2 : Fin 3) = 0)

theorem index4 : ∀ t : Fin cfg0.N, win0_4.index t (0 : Fin 3) = t.val / 4 ∧ win0_4.index t (1 : Fin 3) = 0 ∧ win0_4.index t (2 : Fin 3) = 0 :=
  (by decide +kernel : ∀ t : Fin grid0.N, win0_4.index t (0 : Fin 3) = t.val / 4 ∧ win0_4.index t (1 : Fin 3) = 0 ∧ win0_4.index t (2 : Fin 3) = 0)

theorem index5 : ∀ t : Fin cfg0.N, win0_5.index t (0 : Fin 3) = t.val / 4 ∧ win0_5.index t (1 : Fin 3) = 0 ∧ win0_5.index t (2 : Fin 3) = 0 :=
  (by decide +kernel : ∀ t : Fin grid0.N, win0_5.index t (0 : Fin 3) = t.val / 4 ∧ win0_5.index t (1 : Fin 3) = 0 ∧ win0_5.index t (2 : Fin 3) = 0)

theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- A grid point's block of the differential queries. -/
theorem iblk0 (t : Fin cfg0.N) (r : Fin 512) (l : Fin 512) :
    iblk m c 0 t (ix3 0 r l) = (m ((c : Thread nD τ).loc main_arg0)) (ix3 (bat t) (row t r) l) := by
  show V m c main_arg0 (((cfg0.win 0).blk t).view.emb (ix3 0 r l)) = _
  rw [V_main_arg0]
  obtain ⟨e0, e1, e2⟩ := index0 t
  refine congrArg _ (funext fun a => ?_)
  match a with
  | ⟨0, _⟩ => exact Fin.ext (show win0_0.index t (0 : Fin 3) * 1 + 1 * 0 = t.val / 4 by omega)
  | ⟨1, _⟩ => exact Fin.ext (show win0_0.index t (1 : Fin 3) * 512 + 1 * r.val = 512 * (t.val % 4) + r.val by omega)
  | ⟨2, _⟩ => exact Fin.ext (show win0_0.index t (2 : Fin 3) * 512 + 1 * l.val = l.val by omega)

/-- A grid point's block of the grouped queries. -/
theorem iblk1 (t : Fin cfg0.N) (r : Fin 512) (l : Fin 512) :
    iblk m c 1 t (ix3 0 r l) = (m ((c : Thread nD τ).loc main_arg1)) (ix3 (bat t) (row t r) l) := by
  show V m c main_arg1 (((cfg0.win 1).blk t).view.emb (ix3 0 r l)) = _
  rw [V_main_arg1]
  obtain ⟨e0, e1, e2⟩ := index1 t
  refine congrArg _ (funext fun a => ?_)
  match a with
  | ⟨0, _⟩ => exact Fin.ext (show win0_1.index t (0 : Fin 3) * 1 + 1 * 0 = t.val / 4 by omega)
  | ⟨1, _⟩ => exact Fin.ext (show win0_1.index t (1 : Fin 3) * 512 + 1 * r.val = 512 * (t.val % 4) + r.val by omega)
  | ⟨2, _⟩ => exact Fin.ext (show win0_1.index t (2 : Fin 3) * 512 + 1 * l.val = l.val by omega)

/-- A grid point's block of the differential keys. -/
theorem iblk2 (t : Fin cfg0.N) (r : Fin 2304) (l : Fin 512) :
    iblk m c 2 t (ix3 0 r l) = (m ((c : Thread nD τ).loc main_arg2)) (ix3 (bat t) (r) l) := by
  show V m c main_arg2 (((cfg0.win 2).blk t).view.emb (ix3 0 r l)) = _
  rw [V_main_arg2]
  obtain ⟨e0, e1, e2⟩ := index2 t
  refine congrArg _ (funext fun a => ?_)
  match a with
  | ⟨0, _⟩ => exact Fin.ext (show win0_2.index t (0 : Fin 3) * 1 + 1 * 0 = t.val / 4 by omega)
  | ⟨1, _⟩ => exact Fin.ext (show win0_2.index t (1 : Fin 3) * 2304 + 1 * r.val = r.val by omega)
  | ⟨2, _⟩ => exact Fin.ext (show win0_2.index t (2 : Fin 3) * 512 + 1 * l.val = l.val by omega)

/-- A grid point's block of the differential values. -/
theorem iblk3 (t : Fin cfg0.N) (r : Fin 2304) (l : Fin 512) :
    iblk m c 3 t (ix3 0 r l) = (m ((c : Thread nD τ).loc main_arg3)) (ix3 (bat t) (r) l) := by
  show V m c main_arg3 (((cfg0.win 3).blk t).view.emb (ix3 0 r l)) = _
  rw [V_main_arg3]
  obtain ⟨e0, e1, e2⟩ := index3 t
  refine congrArg _ (funext fun a => ?_)
  match a with
  | ⟨0, _⟩ => exact Fin.ext (show win0_3.index t (0 : Fin 3) * 1 + 1 * 0 = t.val / 4 by omega)
  | ⟨1, _⟩ => exact Fin.ext (show win0_3.index t (1 : Fin 3) * 2304 + 1 * r.val = r.val by omega)
  | ⟨2, _⟩ => exact Fin.ext (show win0_3.index t (2 : Fin 3) * 512 + 1 * l.val = l.val by omega)

/-- A grid point's block of the grouped keys. -/
theorem iblk4 (t : Fin cfg0.N) (r : Fin 2304) (l : Fin 128) :
    iblk m c 4 t (ix3 0 r l) = (m ((c : Thread nD τ).loc main_arg4)) (ix3 (bat t) (r) l) := by
  show V m c main_arg4 (((cfg0.win 4).blk t).view.emb (ix3 0 r l)) = _
  rw [V_main_arg4]
  obtain ⟨e0, e1, e2⟩ := index4 t
  refine congrArg _ (funext fun a => ?_)
  match a with
  | ⟨0, _⟩ => exact Fin.ext (show win0_4.index t (0 : Fin 3) * 1 + 1 * 0 = t.val / 4 by omega)
  | ⟨1, _⟩ => exact Fin.ext (show win0_4.index t (1 : Fin 3) * 2304 + 1 * r.val = r.val by omega)
  | ⟨2, _⟩ => exact Fin.ext (show win0_4.index t (2 : Fin 3) * 128 + 1 * l.val = l.val by omega)

/-- A grid point's block of the grouped values. -/
theorem iblk5 (t : Fin cfg0.N) (r : Fin 2304) (l : Fin 128) :
    iblk m c 5 t (ix3 0 r l) = (m ((c : Thread nD τ).loc main_arg5)) (ix3 (bat t) (r) l) := by
  show V m c main_arg5 (((cfg0.win 5).blk t).view.emb (ix3 0 r l)) = _
  rw [V_main_arg5]
  obtain ⟨e0, e1, e2⟩ := index5 t
  refine congrArg _ (funext fun a => ?_)
  match a with
  | ⟨0, _⟩ => exact Fin.ext (show win0_5.index t (0 : Fin 3) * 1 + 1 * 0 = t.val / 4 by omega)
  | ⟨1, _⟩ => exact Fin.ext (show win0_5.index t (1 : Fin 3) * 2304 + 1 * r.val = r.val by omega)
  | ⟨2, _⟩ => exact Fin.ext (show win0_5.index t (2 : Fin 3) * 128 + 1 * l.val = l.val by omega)

theorem iblk6 (t : Fin cfg0.N) (a : Fin 4) (l : Fin 64) :
    iblk m c 6 t (ix2 a l) = V m c main_v8 (ix2 a l) := by
  show V m c main_v8 (((cfg0.win 6).blk t).view.emb (ix2 a l)) = _
  obtain ⟨e0, e1⟩ := index6 t
  refine congrArg _ (funext fun x => ?_)
  match x with
  | ⟨0, _⟩ => exact Fin.ext (show win0_6.index t (0 : Fin 2) * 4 + 1 * a.val = a.val by omega)
  | ⟨1, _⟩ => exact Fin.ext (show win0_6.index t (1 : Fin 2) * 64 + 1 * l.val = l.val by omega)

theorem iblk7 (t : Fin cfg0.N) (a : Fin 1) (l : Fin 128) :
    iblk m c 7 t (ix2 a l) = V m c main_v10 (ix2 a l) := by
  show V m c main_v10 (((cfg0.win 7).blk t).view.emb (ix2 a l)) = _
  obtain ⟨e0, e1⟩ := index7 t
  refine congrArg _ (funext fun x => ?_)
  match x with
  | ⟨0, _⟩ => exact Fin.ext (show win0_7.index t (0 : Fin 2) * 1 + 1 * a.val = a.val by omega)
  | ⟨1, _⟩ => exact Fin.ext (show win0_7.index t (1 : Fin 2) * 128 + 1 * l.val = l.val by omega)

/-- The four rows of weights of λ. -/
def lamRows (w0 w1 w2 w3 : Vec Ideal S1x64 .f32) (a : Fin 4) (l : Fin 64) : EReal :=
  match a with
  | ⟨0, _⟩ => w0 (ix2 0 l)
  | ⟨1, _⟩ => w1 (ix2 0 l)
  | ⟨2, _⟩ => w2 (ix2 0 l)
  | ⟨3, _⟩ => w3 (ix2 0 l)

/-- A stack of four rows, at an index. -/
theorem stack_apply (y0 y1 y2 y3 : Vec Ideal S1x64 .f32) (a : Fin 4) (l : Fin 64) :
    (concatenate S4x64 0 [⟨S1x64, y0⟩, ⟨S1x64, y1⟩, ⟨S1x64, y2⟩, ⟨S1x64, y3⟩] concatenates_S1x64_S1x64_S1x64_S1x64_S4x64_d0 :
      Vec Ideal S4x64 .f32) (ix2 a l) = lamRows y0 y1 y2 y3 a l := by
  match a with
  | ⟨0, _⟩ => pointwise [lamRows]
  | ⟨1, _⟩ => pointwise [lamRows]
  | ⟨2, _⟩ => pointwise [lamRows]
  | ⟨3, _⟩ => pointwise [lamRows]

/-- A row of weights as the launch reshapes and broadcasts it. -/
def reshaped (w : Vec Ideal S1x64 .f32) : Vec Ideal S1x64 .f32 :=
  broadcastInDim S1x64 ![1] bcast_S64_S1x64_1 (shapeCast S64 w shapeCasts_S1x64_S64 : Vec Ideal S64 .f32)

theorem reshaped_apply (w : Vec Ideal S1x64 .f32) (l : Fin 64) : reshaped w (ix2 0 l) = w (ix2 0 l) := by
  unfold reshaped
  pointwise []

theorem lamRows_reshaped (w0 w1 w2 w3 : Vec Ideal S1x64 .f32) (a : Fin 4) (l : Fin 64) :
    lamRows (reshaped w0) (reshaped w1) (reshaped w2) (reshaped w3) a l = lamRows w0 w1 w2 w3 a l := by
  match a with
  | ⟨0, _⟩ => exact reshaped_apply w0 l
  | ⟨1, _⟩ => exact reshaped_apply w1 l
  | ⟨2, _⟩ => exact reshaped_apply w2 l
  | ⟨3, _⟩ => exact reshaped_apply w3 l

/-- The rows of a memory, of buffers looked up by number. -/
theorem lamRows_at (μ : (b : DevRef τ sig) → b.ty.Contents (Elt Ideal)) (y0 y1 y2 y3 : Vec Ideal S1x64 .f32)
    (h0 : μ (Proc.devRef .tc main_v4) = y0) (h1 : μ (Proc.devRef .tc main_v5) = y1) (h2 : μ (Proc.devRef .tc main_v6) = y2)
    (h3 : μ (Proc.devRef .tc main_v7) = y3) (a : Fin 4) (l : Fin 64) :
    lamRows (μ (Proc.devRef .tc (![main_v4, main_v5, main_v6, main_v7] 0))) (μ (Proc.devRef .tc (![main_v4, main_v5, main_v6, main_v7] 1)))
      (μ (Proc.devRef .tc (![main_v4, main_v5, main_v6, main_v7] 2))) (μ (Proc.devRef .tc (![main_v4, main_v5, main_v6, main_v7] 3))) a l
      = lamRows y0 y1 y2 y3 a l := by
  subst h0 h1 h2 h3
  rfl

/-- The array that the launch stacks from the four rows. -/
theorem V_lam (a : Fin 4) (l : Fin 64) : V m c main_v8 (ix2 a l) = lamRows (m ((c : Thread nD τ).loc main_arg6))
    (m ((c : Thread nD τ).loc main_arg7)) (m ((c : Thread nD τ).loc main_arg8)) (m ((c : Thread nD τ).loc main_arg9)) a l := by
  unfold_abbrev_sides
  after_results
  refine (stack_apply _ _ _ _ a l).trans ((lamRows_at _ (reshaped (m ((c : Thread nD τ).loc main_arg6)))
    (reshaped (m ((c : Thread nD τ).loc main_arg7))) (reshaped (m ((c : Thread nD τ).loc main_arg8)))
    (reshaped (m ((c : Thread nD τ).loc main_arg9))) ?_ ?_ ?_ ?_ a l).trans (lamRows_reshaped _ _ _ _ a l))
  · rfl
  · rfl
  · rfl
  · rfl

/-- The gain that the launch passes on. -/
theorem V_gain (l : Fin 128) : V m c main_v10 (ix2 0 l) = (m ((c : Thread nD τ).loc main_arg10)) (ix2 0 l) := by
  unfold_abbrev_sides
  after_results
  show (broadcastInDim S1x128 ![1] bcast_S128_S1x128_1 (shapeCast S128 (m ((c : Thread nD τ).loc main_arg10) : Vec Ideal S1x128 .f32) shapeCasts_S1x128_S128 : Vec Ideal S128 .f32) : Vec Ideal S1x128 .f32) (ix2 0 l) = (m ((c : Thread nD τ).loc main_arg10) : Vec Ideal S1x128 .f32) (ix2 0 l)
  generalize (m ((c : Thread nD τ).loc main_arg10) : Vec Ideal S1x128 .f32) = w
  pointwise []

/-- The values of a batch element are the same at all its points. -/
theorem iblk3_same (t t' : Fin cfg0.N) (h : t.val / 4 = t'.val / 4) :
    (iblk m c 3 t : Vec Ideal S1x2304x512 .bf16) = iblk m c 3 t' := by
  funext x
  obtain ⟨j, l, rfl⟩ : ∃ (j : Fin 2304) (l : Fin 512), x = ix3 0 j l := ⟨x 1, x 2, by rw [eq_ix3 x]; congr 1; exact Subsingleton.elim _ _⟩
  have hb : bat t = bat t' := Fin.ext h
  rw [iblk3, iblk3, hb]

theorem iblk5_same (t t' : Fin cfg0.N) (h : t.val / 4 = t'.val / 4) :
    (iblk m c 5 t : Vec Ideal S1x2304x128 .bf16) = iblk m c 5 t' := by
  funext x
  obtain ⟨j, l, rfl⟩ : ∃ (j : Fin 2304) (l : Fin 128), x = ix3 0 j l := ⟨x 1, x 2, by rw [eq_ix3 x]; congr 1; exact Subsingleton.elim _ _⟩
  have hb : bat t = bat t' := Fin.ext h
  rw [iblk5, iblk5, hb]

/-- A grid point's result block. -/
def outAt (t : Fin cfg0.N) : Vec Ideal S1x512x1024 .bf16 :=
  result (iblk m c 0 t) (iblk m c 1 t) (iblk m c 2 t) (iblk m c 3 t) (iblk m c 4 t) (iblk m c 5 t) (iblk m c 6 t) (iblk m c 7 t)

/-- What the carried scratch holds after a grid point. -/
def valAt (t : Fin cfg0.N) : Vec Ideal S5x2304x256 .bf16 := values (iblk m c 3 t) (iblk m c 5 t)

/-- A batch element's first point writes its values and the result block. -/
theorem outs_A (t : Fin cfg0.N) (h0 : t.val % 4 = 0) : outsAt0 m c t.val t.isLt = (outAt m c t, valAt m c t) := by
  rw [outsAt0_A m c t h0, out_A, scratch_A]
  rfl

/-- Another point, that finds the values in the scratch, writes the result block and leaves the scratch. -/
theorem outs_B (t : Fin cfg0.N) (h0 : ¬t.val % 4 = 0)
    (hs : (outsAt0 m c (t.val - 1) (Nat.lt_of_le_of_lt (Nat.sub_le _ _) t.isLt)).2 = valAt m c t) :
    outsAt0 m c t.val t.isLt = (outAt m c t, valAt m c t) := by
  rw [outsAt0_B m c t h0, hs]
  unfold valAt
  rw [out_B]
  rfl

/-- After every grid point the output block is the result block and the scratch holds the batch element's values: the first
    point of a batch element writes them, the others find them there. -/
theorem outs_eq (n : ℕ) : ∀ hn : n < cfg0.N, outsAt0 m c n hn = (outAt m c ⟨n, hn⟩, valAt m c ⟨n, hn⟩) := by
  induction n with
  | zero => exact fun hn => outs_A m c ⟨0, hn⟩ rfl
  | succ n ih =>
    intro hn
    by_cases h0 : (n + 1) % 4 = 0
    · exact outs_A m c ⟨n + 1, hn⟩ h0
    · refine outs_B m c ⟨n + 1, hn⟩ h0 ((congrArg Prod.snd (ih (Nat.lt_of_succ_lt hn))).trans ?_)
      show valAt m c _ = _
      unfold valAt
      rw [iblk3_same m c ⟨n, Nat.lt_of_succ_lt hn⟩ ⟨n + 1, hn⟩ (by show n / 4 = (n + 1) / 4; omega),
        iblk5_same m c ⟨n, Nat.lt_of_succ_lt hn⟩ ⟨n + 1, hn⟩ (by show n / 4 = (n + 1) / 4; omega)]

/-- A result block's entry, from the arguments. -/
theorem outAt_apply (t : Fin cfg0.N) (r : Fin 512) (l : Fin 1024) :
    outAt m c t (ix3 0 r l) = outK (fun l => (m ((c : Thread nD τ).loc main_arg0)) (ix3 (bat t) (row t r) l))
      (fun l => (m ((c : Thread nD τ).loc main_arg1)) (ix3 (bat t) (row t r) l)) (fun j l => (m ((c : Thread nD τ).loc main_arg2)) (ix3 (bat t) j l))
      (fun j l => (m ((c : Thread nD τ).loc main_arg3)) (ix3 (bat t) j l)) (fun j l => (m ((c : Thread nD τ).loc main_arg4)) (ix3 (bat t) j l))
      (fun j l => (m ((c : Thread nD τ).loc main_arg5)) (ix3 (bat t) j l))
      (lamRows (m ((c : Thread nD τ).loc main_arg6)) (m ((c : Thread nD τ).loc main_arg7)) (m ((c : Thread nD τ).loc main_arg8)) (m ((c : Thread nD τ).loc main_arg9)))
      (fun l => (m ((c : Thread nD τ).loc main_arg10)) (ix2 0 l)) l := by
  unfold outAt
  rw [result_apply]
  have e0 := fun l => iblk0 m c t r l
  have e1 := fun l => iblk1 m c t r l
  have e2 := fun j l => iblk2 m c t j l
  have e3 := fun j l => iblk3 m c t j l
  have e4 := fun j l => iblk4 m c t j l
  have e5 := fun j l => iblk5 m c t j l
  have e6 := fun a l => (iblk6 m c t a l).trans (V_lam m c a l)
  have e7 := fun l => (iblk7 m c t 0 l).trans (V_gain m c l)
  rw [funext e0, funext e1, funext fun j => funext (e2 j), funext fun j => funext (e3 j), funext fun j => funext (e4 j), funext fun j => funext (e5 j),
    funext fun a => funext (e6 a), funext e7]

/-- The result array, entry by entry, from the arguments. -/
theorem G8_apply (b : Fin 32) (s : Fin 2048) (l : Fin 1024) :
    Cert.KernelIdeal.Value.G8 m c (ix3 b s l) = outK (fun l => (m ((c : Thread nD τ).loc main_arg0)) (ix3 b s l))
      (fun l => (m ((c : Thread nD τ).loc main_arg1)) (ix3 b s l)) (fun j l => (m ((c : Thread nD τ).loc main_arg2)) (ix3 b j l))
      (fun j l => (m ((c : Thread nD τ).loc main_arg3)) (ix3 b j l)) (fun j l => (m ((c : Thread nD τ).loc main_arg4)) (ix3 b j l))
      (fun j l => (m ((c : Thread nD τ).loc main_arg5)) (ix3 b j l))
      (lamRows (m ((c : Thread nD τ).loc main_arg6)) (m ((c : Thread nD τ).loc main_arg7)) (m ((c : Thread nD τ).loc main_arg8)) (m ((c : Thread nD τ).loc main_arg9)))
      (fun l => (m ((c : Thread nD τ).loc main_arg10)) (ix2 0 l)) l := by
  have hp : Cert.KernelIdeal.Value.pt8Of (ix3 b s l) = 4 * b.val + s.val / 512 := by
    show 4 * (b.val / 1 - 0) + 1 * (s.val / 512 - 0) + 1 * (l.val / 1024 - 0) = _
    omega
  have hN : (4 * b.val + s.val / 512) < cfg0.N := lt_of_lt_of_eq (show _ < 128 by omega) (show 128 = cfg0.N from N_0.symm)
  have hN' : Cert.KernelIdeal.Value.pt8Of (ix3 b s l) < cfg0.N := lt_of_eq_of_lt hp hN
  have hl : Cert.KernelIdeal.Value.loc8Of (ix3 b s l) = ix3 0 (⟨s.val % 512, Nat.mod_lt _ (by decide)⟩ : Fin 512) l := by
    funext a
    match a with
    | ⟨0, _⟩ => exact Fin.ext (show b.val % 1 = 0 by omega)
    | ⟨1, _⟩ => rfl
    | ⟨2, _⟩ => exact Fin.ext (show l.val % 1024 = l.val by omega)
  have hb : bat (⟨4 * b.val + s.val / 512, hN⟩ : Fin cfg0.N) = b := Fin.ext (show (4 * b.val + s.val / 512) / 4 = b.val by omega)
  have hr : row (⟨4 * b.val + s.val / 512, hN⟩ : Fin cfg0.N) ⟨s.val % 512, Nat.mod_lt _ (by decide)⟩ = s :=
    Fin.ext (show 512 * ((4 * b.val + s.val / 512) % 4) + s.val % 512 = s.val by omega)
  have ht : (⟨Cert.KernelIdeal.Value.pt8Of (ix3 b s l), hN'⟩ : Fin cfg0.N) = ⟨4 * b.val + s.val / 512, hN⟩ := Fin.ext hp
  have e : Cert.KernelIdeal.Value.G8 m c (ix3 b s l)
      = (outsAt0 m c (Cert.KernelIdeal.Value.pt8Of (ix3 b s l)) hN').1 (Cert.KernelIdeal.Value.loc8Of (ix3 b s l)) := by
    rw [Cert.KernelIdeal.Value.outsAt0_sweep m c _ hN']
    exact dif_pos hN'
  rw [e, outs_eq m c _ hN', hl, ht]
  refine (outAt_apply m c _ _ l).trans ?_
  rw [hb, hr]

end Cert.KernelIdeal.Whole

end
-- ==== Proof.Reference.lean ====
/- The reference's result, entry by entry, from its arguments. -/
module

public import proofs.«01_k».proof.Proof.Gen.ReferenceIdeal.Read
public import proofs.«01_k».proof.Proof.Softmax
public import Idealize.ShloMosaic.Lib.Pointwise

@[expose] public section

set_option maxRecDepth 16384

noncomputable section

namespace Cert.ReferenceIdeal.Whole

open Idealize.ShloMosaic
open Cert.ReferenceIdeal Cert.ReferenceIdeal.Gen Cert.ReferenceIdeal.Read Cert.Attn

/-- The bits of −∞. -/
theorem bits_ninf : Ideal.ofBits .f32 0xFF800000#32 = ⊥ := by
  simp [Ideal.ofBits, Ideal.ieee]

/-- The logarithm of the literal 2. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h]
  show (if (2 : ℝ) ≤ 0 then (⊥ : EReal) else (Real.log 2 : EReal)) = _
  rw [if_neg (by norm_num)]

/-- The score of a head's first chunk, times ln 2. -/
theorem score0 (x0 : Vec Ideal S32x2048x512 .bf16) (x2 : Vec Ideal S32x2304x512 .bf16) (b : Fin 32) (h : Fin 4) (r : Fin 2048) (j : Fin 2304) :
    val_main_v33 (F := Ideal) x0 x2 (ix5 b h 0 r j)
      = dScore (fun l => x0 (ix3 b r l)) (fun j l => x2 (ix3 b j l)) (half h 0) j * ((Real.log 2 : ℝ) : EReal) := by
  unfold val_main_v33 val_main_v30 val_main_v29 val_main_v27 val_main_v26 val_main_v3 val_main_v2 val_main_v28 val_main_v25 val_main_v24 val_main_v1 val_main_v0 val_main_v32 val_main_v31 val_main_cst_2
  pointwise []
  rw [log_two]
  refine congrArg (· * _) (Finset.sum_congr rfl fun i _ => ?_)
  have e : lane64 (half h 0) i = ⟨h.val * 128 + i.val, by omega⟩ := Fin.ext (show 64 * (2 * h.val + 0) + i.val = h.val * 128 + i.val by omega)
  rw [e, mul_comm]

/-- The score of a head's second chunk, times ln 2. -/
theorem score1 (x0 : Vec Ideal S32x2048x512 .bf16) (x2 : Vec Ideal S32x2304x512 .bf16) (b : Fin 32) (h : Fin 4) (r : Fin 2048) (j : Fin 2304) :
    val_main_v57 (F := Ideal) x0 x2 (ix5 b h 0 r j)
      = dScore (fun l => x0 (ix3 b r l)) (fun j l => x2 (ix3 b j l)) (half h 1) j * ((Real.log 2 : ℝ) : EReal) := by
  unfold val_main_v57 val_main_v54 val_main_v53 val_main_v51 val_main_v50 val_main_v3 val_main_v2 val_main_v52 val_main_v49 val_main_v48 val_main_v1 val_main_v0 val_main_v56 val_main_v55 val_main_cst_6
  pointwise []
  rw [log_two]
  refine congrArg (· * _) (Finset.sum_congr rfl fun i _ => ?_)
  have e : lane64 (half h 1) i = ⟨h.val * 128 + 64 + i.val, by omega⟩ := Fin.ext (show 64 * (2 * h.val + 1) + i.val = h.val * 128 + 64 + i.val by omega)
  rw [e, mul_comm]

/-- Head `p` of group `g`, among the eight. -/
def member (g : Fin 2) (p : Fin 4) : Fin 8 := ⟨4 * g.val + p.val, by omega⟩

/-- The score of a grouped head, times ln 2. -/
theorem score2 (x1 : Vec Ideal S32x2048x512 .bf16) (x4 : Vec Ideal S32x2304x128 .bf16) (b : Fin 32) (g : Fin 2) (p : Fin 4) (r : Fin 2048) (j : Fin 2304) :
    val_main_v96 (F := Ideal) x1 x4 (ix5 b g p r j)
      = gScore (fun l => x1 (ix3 b r l)) (fun j l => x4 (ix3 b j l)) (member g p) j * ((Real.log 2 : ℝ) : EReal) := by
  unfold val_main_v96 val_main_v93 val_main_v92 val_main_v9 val_main_v8 val_main_v91 val_main_v7 val_main_v6 val_main_v95 val_main_v94 val_main_cst_14
  pointwise []
  rw [log_two]
  refine congrArg (· * _) (Finset.sum_congr rfl fun i _ => ?_)
  have e : lane64 (member g p) i = ⟨g.val * 256 + p.val * 64 + i.val, by omega⟩ :=
    Fin.ext (show 64 * (4 * g.val + p.val) + i.val = g.val * 256 + p.val * 64 + i.val by omega)
  have e' : kvLane (member g p) i = ⟨g.val * 64 + i.val, by omega⟩ :=
    Fin.ext (show 64 * ((4 * g.val + p.val) / 4) + i.val = g.val * 64 + i.val by omega)
  rw [e, e', mul_comm]

/-- The exponentials of the rows' scores less `M`. -/
def expssoft4 (t : FVec Ideal S32x4x1x2048x2304 .f32) (M : FVec Ideal S32x4x1x2048 .f32) : FVec Ideal S32x4x1x2048x2304 .f32 :=
  Host.exp (subf t (broadcastInDim S32x4x1x2048x2304 ![0, 1, 2, 3, 4] bcast_S32x4x1x2048x1_S32x4x1x2048x2304_0_1_2_3_4
    (broadcastInDim S32x4x1x2048x1 ![0, 1, 2, 3] bcast_S32x4x1x2048_S32x4x1x2048x1_0_1_2_3 M)))

theorem expssoft4_apply (t : FVec Ideal S32x4x1x2048x2304 .f32) (M : FVec Ideal S32x4x1x2048 .f32) (b : Fin 32) (h : Fin 4) (r : Fin 2048) (j : Fin 2304) :
    expssoft4 t M (ix5 b h 0 r j) = Ideal.exp (t (ix5 b h 0 r j) - M (ix4 b h 0 r)) := by
  pointwise [expssoft4]

/-- An array over its rows' sums. -/
def sharesoft4 (e : FVec Ideal S32x4x1x2048x2304 .f32) : FVec Ideal S32x4x1x2048x2304 .f32 :=
  Host.divf e (broadcastInDim S32x4x1x2048x2304 ![0, 1, 2, 3, 4] bcast_S32x4x1x2048x1_S32x4x1x2048x2304_0_1_2_3_4
    (broadcastInDim S32x4x1x2048x1 ![0, 1, 2, 3] bcast_S32x4x1x2048_S32x4x1x2048x1_0_1_2_3
      (Host.reduceAdd e (constant S_ .f32 0x00000000#32) reducesTo_S32x4x1x2048x2304_S32x4x1x2048_d4 h_S_ : FVec Ideal S32x4x1x2048 .f32)))

theorem sharesoft4_apply (e : FVec Ideal S32x4x1x2048x2304 .f32) (b : Fin 32) (h : Fin 4) (r : Fin 2048) (j : Fin 2304) :
    sharesoft4 e (ix5 b h 0 r j) = Ideal.div (e (ix5 b h 0 r j)) (∑ k, e (ix5 b h 0 r k)) := by
  pointwise [sharesoft4]

/-- The rows' largest scores. -/
def topsoft4 (t : FVec Ideal S32x4x1x2048x2304 .f32) : FVec Ideal S32x4x1x2048 .f32 :=
  maximumf (val_main_v35 (F := Ideal)) (Host.reduce FloatOps.maximumf t (val_main_cst_3 (F := Ideal)) reducesTo_S32x4x1x2048x2304_S32x4x1x2048_d4 h_S_)

theorem topsoft4_apply (t : FVec Ideal S32x4x1x2048x2304 .f32) (b : Fin 32) (h : Fin 4) (r : Fin 2048) :
    topsoft4 t (ix4 b h 0 r) = peak fun j => t (ix5 b h 0 r j) := by
  have e : Host.reduce (FloatOps.maximumf : Ideal .f32 → Ideal .f32 → Ideal .f32) t (val_main_cst_3 (F := Ideal)) reducesTo_S32x4x1x2048x2304_S32x4x1x2048_d4 h_S_ (ix4 b h 0 r)
      = peak fun j => t (ix5 b h 0 r j) := by
    rw [Host.reduce_eq_fold_single FloatOps.maximumf t _ reducesTo_S32x4x1x2048x2304_S32x4x1x2048_d4 (by decide) h_S_, val_main_cst_3_apply]
    rw [show (FloatOps.ofBits .f32 0xFF800000#32 : Ideal .f32) = (⊥ : EReal) from bits_ninf]
    refine congrArg (fun f => (Finset.univ : Finset (Fin 2304)).fold max (⊥ : EReal) f) (funext fun j => ?_)
    exact congrArg t (funext fun a => Fin.ext (by match a with | ⟨0, _⟩ => rfl | ⟨1, _⟩ => rfl | ⟨2, _⟩ => rfl | ⟨3, _⟩ => rfl | ⟨4, _⟩ => rfl))
  have e' : val_main_v35 (F := Ideal) (ix4 b h 0 r) = ⊥ := by
    rw [val_main_v35_apply, val_main_cst_4_apply]
    exact bits_ninf
  have key : ∀ M : FVec Ideal S32x4x1x2048 .f32, maximumf (val_main_v35 (F := Ideal)) M (ix4 b h 0 r)
      = max (val_main_v35 (F := Ideal) (ix4 b h 0 r) : EReal) (M (ix4 b h 0 r)) := fun _ => rfl
  unfold topsoft4
  rw [key, e', e]
  exact max_eq_right bot_le

/-- The weights of the four differential heads: each exponential over its row's sum. -/
def soft4 (t : FVec Ideal S32x4x1x2048x2304 .f32) : FVec Ideal S32x4x1x2048x2304 .f32 := sharesoft4 (expssoft4 t (topsoft4 t))

theorem soft4_apply (t : FVec Ideal S32x4x1x2048x2304 .f32) (b : Fin 32) (h : Fin 4) (r : Fin 2048) (j : Fin 2304) :
    soft4 t (ix5 b h 0 r j) = Ideal.div (Ideal.exp (t (ix5 b h 0 r j) - peak fun j => t (ix5 b h 0 r j)))
      (∑ k, Ideal.exp (t (ix5 b h 0 r k) - peak fun j => t (ix5 b h 0 r j))) := by
  unfold soft4
  rw [sharesoft4_apply]
  simp only [expssoft4_apply, topsoft4_apply]

/-- The exponentials of the rows' scores less `M`. -/
def expssoft2 (t : FVec Ideal S32x2x4x2048x2304 .f32) (M : FVec Ideal S32x2x4x2048 .f32) : FVec Ideal S32x2x4x2048x2304 .f32 :=
  Host.exp (subf t (broadcastInDim S32x2x4x2048x2304 ![0, 1, 2, 3, 4] bcast_S32x2x4x2048x1_S32x2x4x2048x2304_0_1_2_3_4
    (broadcastInDim S32x2x4x2048x1 ![0, 1, 2, 3] bcast_S32x2x4x2048_S32x2x4x2048x1_0_1_2_3 M)))

theorem expssoft2_apply (t : FVec Ideal S32x2x4x2048x2304 .f32) (M : FVec Ideal S32x2x4x2048 .f32) (b : Fin 32) (h : Fin 2) (p : Fin 4) (r : Fin 2048) (j : Fin 2304) :
    expssoft2 t M (ix5 b h p r j) = Ideal.exp (t (ix5 b h p r j) - M (ix4 b h p r)) := by
  pointwise [expssoft2]

/-- An array over its rows' sums. -/
def sharesoft2 (e : FVec Ideal S32x2x4x2048x2304 .f32) : FVec Ideal S32x2x4x2048x2304 .f32 :=
  Host.divf e (broadcastInDim S32x2x4x2048x2304 ![0, 1, 2, 3, 4] bcast_S32x2x4x2048x1_S32x2x4x2048x2304_0_1_2_3_4
    (broadcastInDim S32x2x4x2048x1 ![0, 1, 2, 3] bcast_S32x2x4x2048_S32x2x4x2048x1_0_1_2_3
      (Host.reduceAdd e (constant S_ .f32 0x00000000#32) reducesTo_S32x2x4x2048x2304_S32x2x4x2048_d4 h_S_ : FVec Ideal S32x2x4x2048 .f32)))

theorem sharesoft2_apply (e : FVec Ideal S32x2x4x2048x2304 .f32) (b : Fin 32) (h : Fin 2) (p : Fin 4) (r : Fin 2048) (j : Fin 2304) :
    sharesoft2 e (ix5 b h p r j) = Ideal.div (e (ix5 b h p r j)) (∑ k, e (ix5 b h p r k)) := by
  pointwise [sharesoft2]

/-- The rows' largest scores. -/
def topsoft2 (t : FVec Ideal S32x2x4x2048x2304 .f32) : FVec Ideal S32x2x4x2048 .f32 :=
  maximumf (val_main_v98 (F := Ideal)) (Host.reduce FloatOps.maximumf t (val_main_cst_15 (F := Ideal)) reducesTo_S32x2x4x2048x2304_S32x2x4x2048_d4 h_S_)

theorem topsoft2_apply (t : FVec Ideal S32x2x4x2048x2304 .f32) (b : Fin 32) (h : Fin 2) (p : Fin 4) (r : Fin 2048) :
    topsoft2 t (ix4 b h p r) = peak fun j => t (ix5 b h p r j) := by
  have e : Host.reduce (FloatOps.maximumf : Ideal .f32 → Ideal .f32 → Ideal .f32) t (val_main_cst_15 (F := Ideal)) reducesTo_S32x2x4x2048x2304_S32x2x4x2048_d4 h_S_ (ix4 b h p r)
      = peak fun j => t (ix5 b h p r j) := by
    rw [Host.reduce_eq_fold_single FloatOps.maximumf t _ reducesTo_S32x2x4x2048x2304_S32x2x4x2048_d4 (by decide) h_S_, val_main_cst_15_apply]
    rw [show (FloatOps.ofBits .f32 0xFF800000#32 : Ideal .f32) = (⊥ : EReal) from bits_ninf]
    refine congrArg (fun f => (Finset.univ : Finset (Fin 2304)).fold max (⊥ : EReal) f) (funext fun j => ?_)
    exact congrArg t (funext fun a => Fin.ext (by match a with | ⟨0, _⟩ => rfl | ⟨1, _⟩ => rfl | ⟨2, _⟩ => rfl | ⟨3, _⟩ => rfl | ⟨4, _⟩ => rfl))
  have e' : val_main_v98 (F := Ideal) (ix4 b h p r) = ⊥ := by
    rw [val_main_v98_apply, val_main_cst_16_apply]
    exact bits_ninf
  have key : ∀ M : FVec Ideal S32x2x4x2048 .f32, maximumf (val_main_v98 (F := Ideal)) M (ix4 b h p r)
      = max (val_main_v98 (F := Ideal) (ix4 b h p r) : EReal) (M (ix4 b h p r)) := fun _ => rfl
  unfold topsoft2
  rw [key, e', e]
  exact max_eq_right bot_le

/-- The weights of the grouped heads: each exponential over its row's sum. -/
def soft2 (t : FVec Ideal S32x2x4x2048x2304 .f32) : FVec Ideal S32x2x4x2048x2304 .f32 := sharesoft2 (expssoft2 t (topsoft2 t))

theorem soft2_apply (t : FVec Ideal S32x2x4x2048x2304 .f32) (b : Fin 32) (h : Fin 2) (p : Fin 4) (r : Fin 2048) (j : Fin 2304) :
    soft2 t (ix5 b h p r j) = Ideal.div (Ideal.exp (t (ix5 b h p r j) - peak fun j => t (ix5 b h p r j)))
      (∑ k, Ideal.exp (t (ix5 b h p r k) - peak fun j => t (ix5 b h p r j))) := by
  unfold soft2
  rw [sharesoft2_apply]
  simp only [expssoft2_apply, topsoft2_apply]

theorem weights0 (x0 : Vec Ideal S32x2048x512 .bf16) (x2 : Vec Ideal S32x2304x512 .bf16) :
    val_main_v44 (F := Ideal) x0 x2 = soft4 (val_main_v33 (F := Ideal) x0 x2) := rfl

theorem weights1 (x0 : Vec Ideal S32x2048x512 .bf16) (x2 : Vec Ideal S32x2304x512 .bf16) :
    val_main_v68 (F := Ideal) x0 x2 = soft4 (val_main_v57 (F := Ideal) x0 x2) := rfl

theorem weights2 (x1 : Vec Ideal S32x2048x512 .bf16) (x4 : Vec Ideal S32x2304x128 .bf16) :
    val_main_v107 (F := Ideal) x1 x4 = soft2 (val_main_v96 (F := Ideal) x1 x4) := rfl

/-- The output of a head's first chunk. -/
theorem head0 (x0 : Vec Ideal S32x2048x512 .bf16) (x2 : Vec Ideal S32x2304x512 .bf16) (x3 : Vec Ideal S32x2304x512 .bf16) (b : Fin 32) (r : Fin 2048) (h : Fin 4) (d : Fin 128) :
    val_main_v47 (F := Ideal) x0 x2 x3 (ix4 b r h d) = rowR (fun j => dScore (fun l => x0 (ix3 b r l)) (fun j l => x2 (ix3 b j l)) (half h 0) j * ((Real.log 2 : ℝ) : EReal))
      (fun j => x3 (ix3 b j (lane128 h d))) := by
  have e : lane128 h d = ⟨h.val * 128 + d.val, by omega⟩ := Fin.ext (show 128 * h.val + d.val = h.val * 128 + d.val by omega)
  unfold val_main_v47 val_main_v46 val_main_v45 val_main_v5 val_main_v4
  rw [weights0, e]
  simp only [← score0]
  generalize val_main_v33 (F := Ideal) x0 x2 = t
  pointwise [soft4_apply]
  rfl

/-- The output of a head's second chunk. -/
theorem head1 (x0 : Vec Ideal S32x2048x512 .bf16) (x2 : Vec Ideal S32x2304x512 .bf16) (x3 : Vec Ideal S32x2304x512 .bf16) (b : Fin 32) (r : Fin 2048) (h : Fin 4) (d : Fin 128) :
    val_main_v71 (F := Ideal) x0 x2 x3 (ix4 b r h d) = rowR (fun j => dScore (fun l => x0 (ix3 b r l)) (fun j l => x2 (ix3 b j l)) (half h 1) j * ((Real.log 2 : ℝ) : EReal))
      (fun j => x3 (ix3 b j (lane128 h d))) := by
  have e : lane128 h d = ⟨h.val * 128 + d.val, by omega⟩ := Fin.ext (show 128 * h.val + d.val = h.val * 128 + d.val by omega)
  unfold val_main_v71 val_main_v70 val_main_v69 val_main_v5 val_main_v4
  rw [weights1, e]
  simp only [← score1]
  generalize val_main_v57 (F := Ideal) x0 x2 = t
  pointwise [soft4_apply]
  rfl

/-- The output of a grouped head. -/
theorem head2 (x1 : Vec Ideal S32x2048x512 .bf16) (x4 x5 : Vec Ideal S32x2304x128 .bf16) (b : Fin 32) (r : Fin 2048) (g : Fin 2) (p : Fin 4) (d : Fin 64) :
    val_main_v109 (F := Ideal) x1 x4 x5 (ix5 b r g p d) = rowR (fun j => gScore (fun l => x1 (ix3 b r l)) (fun j l => x4 (ix3 b j l)) (member g p) j * ((Real.log 2 : ℝ) : EReal))
      (fun j => x5 (ix3 b j (kvLane (member g p) d))) := by
  have e : kvLane (member g p) d = ⟨g.val * 64 + d.val, by omega⟩ :=
    Fin.ext (show 64 * ((4 * g.val + p.val) / 4) + d.val = g.val * 64 + d.val by omega)
  unfold val_main_v109 val_main_v108 val_main_v11 val_main_v10
  rw [weights2, e]
  simp only [← score2]
  generalize val_main_v96 (F := Ideal) x1 x4 = t
  pointwise [soft2_apply]
  rfl

/-- The difference and its norm. -/
theorem norm_apply (x0 : Vec Ideal S32x2048x512 .bf16) (x2 : Vec Ideal S32x2304x512 .bf16) (x3 : Vec Ideal S32x2304x512 .bf16)
    (x6 x7 x8 x9 : Vec Ideal S1x64 .f32) (x10 : Vec Ideal S1x128 .f32) (b : Fin 32) (r : Fin 2048) (h : Fin 4) (d : Fin 128) :
    val_main_v90 (F := Ideal) x0 x2 x3 x6 x7 x8 x9 x10 (ix4 b r h d) = val_main_v74 (F := Ideal) x0 x2 x3 x6 x7 x8 x9 (ix4 b r h d)
      * scale (fun d => val_main_v74 (F := Ideal) x0 x2 x3 x6 x7 x8 x9 (ix4 b r h d)) * x10 (ix2 0 d) * Ideal.ofBits .f32 0x3F4CCCCD#32 := by
  unfold val_main_v90 val_main_v88 val_main_v85 val_main_v84 val_main_v83 val_main_v82 val_main_v81 val_main_v80 val_main_v79 val_main_v78 val_main_v77 val_main_v76 val_main_v89 val_main_cst_13 val_main_v87 val_main_v86 val_main_v75 val_main_cst_10 val_main_cst_11 val_main_cst_12
  generalize val_main_v74 (F := Ideal) x0 x2 x3 x6 x7 x8 x9 = t
  pointwise [scale]

theorem diff_apply (x0 : Vec Ideal S32x2048x512 .bf16) (x2 : Vec Ideal S32x2304x512 .bf16) (x3 : Vec Ideal S32x2304x512 .bf16)
    (x6 x7 x8 x9 : Vec Ideal S1x64 .f32) (b : Fin 32) (r : Fin 2048) (h : Fin 4) (d : Fin 128) (w : Fin 4 → Fin 64 → EReal)
    (h0 : ∀ l, x6 (ix2 0 l) = w 0 l) (h1 : ∀ l, x7 (ix2 0 l) = w 1 l) (h2 : ∀ l, x8 (ix2 0 l) = w 2 l) (h3 : ∀ l, x9 (ix2 0 l) = w 3 l) :
    val_main_v74 (F := Ideal) x0 x2 x3 x6 x7 x8 x9 (ix4 b r h d) = val_main_v47 (F := Ideal) x0 x2 x3 (ix4 b r h d)
      - lam w * val_main_v71 (F := Ideal) x0 x2 x3 (ix4 b r h d) := by
  unfold val_main_v74 val_main_v73 val_main_v72 val_main_v23 val_main_v22 val_main_v21 val_main_v20 val_main_v19 val_main_v18 val_main_v17 val_main_v16 val_main_v15 val_main_v14 val_main_v13 val_main_v12 val_main_cst val_main_cst_0 val_main_cst_1
  pointwise [lam, h0, h1, h2, h3]

/-- The result's lanes: the differential heads' come first. -/
theorem lanes (x0 : Vec Ideal S32x2048x512 .bf16) (x1 : Vec Ideal S32x2048x512 .bf16) (x2 : Vec Ideal S32x2304x512 .bf16) (x3 : Vec Ideal S32x2304x512 .bf16) (x4 x5 : Vec Ideal S32x2304x128 .bf16)
    (x6 x7 x8 x9 : Vec Ideal S1x64 .f32) (x10 : Vec Ideal S1x128 .f32) (b : Fin 32) (r : Fin 2048) (l : Fin 1024) :
    val_main_v114 (F := Ideal) x0 x1 x2 x3 x4 x5 x6 x7 x8 x9 x10 (ix3 b r l) = if h : l.val < 512 then
      val_main_v90 (F := Ideal) x0 x2 x3 x6 x7 x8 x9 x10 (ix4 b r ⟨l.val / 128, by omega⟩ ⟨l.val % 128, Nat.mod_lt _ (by decide)⟩)
      else val_main_v109 (F := Ideal) x1 x4 x5 (ix5 b r ⟨(l.val - 512) / 256, by omega⟩ ⟨(l.val - 512) / 64 % 4, Nat.mod_lt _ (by decide)⟩ ⟨(l.val - 512) % 64, Nat.mod_lt _ (by decide)⟩) := by
  unfold val_main_v114 val_main_v113 val_main_v112 val_main_v111 val_main_v110
  pointwise []

/-- The result, entry by entry, where the rows of weights of λ are the rows of `w`. -/
theorem result_apply (x0 : Vec Ideal S32x2048x512 .bf16) (x1 : Vec Ideal S32x2048x512 .bf16) (x2 : Vec Ideal S32x2304x512 .bf16) (x3 : Vec Ideal S32x2304x512 .bf16) (x4 x5 : Vec Ideal S32x2304x128 .bf16)
    (x6 x7 x8 x9 : Vec Ideal S1x64 .f32) (x10 : Vec Ideal S1x128 .f32) (b : Fin 32) (r : Fin 2048) (l : Fin 1024) (w : Fin 4 → Fin 64 → EReal)
    (h0 : ∀ l, x6 (ix2 0 l) = w 0 l) (h1 : ∀ l, x7 (ix2 0 l) = w 1 l) (h2 : ∀ l, x8 (ix2 0 l) = w 2 l) (h3 : ∀ l, x9 (ix2 0 l) = w 3 l) :
    val_main_v114 (F := Ideal) x0 x1 x2 x3 x4 x5 x6 x7 x8 x9 x10 (ix3 b r l)
      = outR (fun l => x0 (ix3 b r l)) (fun l => x1 (ix3 b r l)) (fun j l => x2 (ix3 b j l)) (fun j l => x3 (ix3 b j l))
        (fun j l => x4 (ix3 b j l)) (fun j l => x5 (ix3 b j l)) w (fun l => x10 (ix2 0 l)) l := by
  rw [lanes]
  unfold outR
  by_cases hl : l.val < 512
  · rw [dif_pos hl, dif_pos hl, norm_apply]
    simp only [diff_apply _ _ _ _ _ _ _ b r _ _ w h0 h1 h2 h3, head0, head1]
  · rw [dif_neg hl, dif_neg hl, head2]
    have e : member ⟨(l.val - 512) / 256, by omega⟩ ⟨(l.val - 512) / 64 % 4, Nat.mod_lt _ (by decide)⟩ = ⟨(l.val - 512) / 64, by omega⟩ :=
      Fin.ext (show 4 * ((l.val - 512) / 256) + (l.val - 512) / 64 % 4 = (l.val - 512) / 64 by omega)
    have e' : (⟨(l.val - 512) % 64, Nat.mod_lt _ (by decide)⟩ : Fin 64) = ⟨l.val % 64, Nat.mod_lt _ (by decide)⟩ :=
      Fin.ext (show (l.val - 512) % 64 = l.val % 64 by omega)
    rw [e, e']

end Cert.ReferenceIdeal.Whole

end
-- ==== Proof.Equation.lean ====
/- The kernel's result and the reference's are the same array, where the queries and the keys are finite. -/
module

public import proofs.«01_k».proof.Defs
public import proofs.«01_k».proof.Proof.Whole
public import proofs.«01_k».proof.Proof.Reference

@[expose] public section

set_option maxRecDepth 16384

noncomputable section

namespace Cert.Proof

open Idealize.ShloMosaic Cert.Attn

/-- The bits of +∞. -/
theorem bits_inf : Ideal.ofBits .f32 0x7F800000#32 = ⊤ := by
  simp [Ideal.ofBits, Ideal.ieee]

/-- An entry whose absolute value is below +∞ is a real. -/
theorem real_of_test (x : EReal) (h : Ideal.cmp .olt (max x (-x)) (Ideal.ofBits .f32 0x7F800000#32) = 1#1) : ∃ r : ℝ, x = (r : EReal) := by
  rw [bits_inf] at h
  induction x with
  | coe r => exact ⟨r, rfl⟩
  | bot => simp [Ideal.cmp] at h
  | top => simp [Ideal.cmp] at h

section

variable [Cert.Pre_finite_queries_and_keys.Facts]
  (m : (ℓ : Loc Cert.KernelIdeal.nD Cert.KernelIdeal.τ Cert.KernelIdeal.sig) → Buf (Elt Ideal) ℓ)
  (hpre : Cert.Pre_KernelIdeal_finite_queries_and_keys m) (c : Dev Cert.KernelIdeal.nD)
include hpre

/-- Every differential query is finite. -/
theorem finite0 (b : Fin 32) (r : Fin 2048) (l : Fin 512) :
    ∃ x : ℝ, ((m ((c.tc : Thread Cert.KernelIdeal.nD Cert.KernelIdeal.τ).loc Cert.KernelIdeal.main_arg0)) : Vec Ideal Cert.KernelIdeal.S32x2048x512 .bf16) (ix3 b r l) = (x : EReal) :=
  real_of_test _ (congrFun (hpre c).1 (ix3 b r l))

/-- Every grouped query is finite. -/
theorem finite1 (b : Fin 32) (r : Fin 2048) (l : Fin 512) :
    ∃ x : ℝ, ((m ((c.tc : Thread Cert.KernelIdeal.nD Cert.KernelIdeal.τ).loc Cert.KernelIdeal.main_arg1)) : Vec Ideal Cert.KernelIdeal.S32x2048x512 .bf16) (ix3 b r l) = (x : EReal) :=
  real_of_test _ (congrFun (hpre c).2.1 (ix3 b r l))

/-- Every differential key is finite. -/
theorem finite2 (b : Fin 32) (r : Fin 2304) (l : Fin 512) :
    ∃ x : ℝ, ((m ((c.tc : Thread Cert.KernelIdeal.nD Cert.KernelIdeal.τ).loc Cert.KernelIdeal.main_arg2)) : Vec Ideal Cert.KernelIdeal.S32x2304x512 .bf16) (ix3 b r l) = (x : EReal) :=
  real_of_test _ (congrFun (hpre c).2.2.1 (ix3 b r l))

/-- Every grouped key is finite. -/
theorem finite4 (b : Fin 32) (r : Fin 2304) (l : Fin 128) :
    ∃ x : ℝ, ((m ((c.tc : Thread Cert.KernelIdeal.nD Cert.KernelIdeal.τ).loc Cert.KernelIdeal.main_arg4)) : Vec Ideal Cert.KernelIdeal.S32x2304x128 .bf16) (ix3 b r l) = (x : EReal) :=
  real_of_test _ (congrFun (hpre c).2.2.2 (ix3 b r l))

end

/-- The reference's array of the kernel's arguments is the kernel's array. -/
theorem same_args [Cert.Pre_finite_queries_and_keys.Facts]
    (m : (ℓ : Loc Cert.KernelIdeal.nD Cert.KernelIdeal.τ Cert.KernelIdeal.sig) → Buf (Elt Ideal) ℓ)
    (hpre : Cert.Pre_KernelIdeal_finite_queries_and_keys m) (c : Dev Cert.KernelIdeal.nD) :
    Cert.ReferenceIdeal.Read.val_main_v114 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      = Cert.KernelIdeal.Value.G8 m c := by
  funext i
  obtain ⟨b, s, l, rfl⟩ : ∃ (b : Fin 32) (s : Fin 2048) (l : Fin 1024), i = ix3 b s l := ⟨i 0, i 1, i 2, eq_ix3 i⟩
  refine (Cert.ReferenceIdeal.Whole.result_apply _ _ _ _ _ _ _ _ _ _ _ b s l (Cert.KernelIdeal.Whole.lamRows (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (fun _ => rfl) (fun _ => rfl) (fun _ => rfl) (fun _ => rfl)).trans ?_
  refine Eq.trans ?_ (Cert.KernelIdeal.Whole.G8_apply m c b s l).symm
  exact (outK_eq_outR _ _ _ _ _ _ _ _ l (fun i => finite0 m hpre c b s i) (fun i => finite1 m hpre c b s i)
    (fun j i => finite2 m hpre c b j i) (fun j i => finite4 m hpre c b j i)).symm

end Cert.Proof

end
-- ==== Proof.ExpertsKit.lean ====
/- The experts' products, the launch of their pipeline: the arrays, tables and blocks as the region finds them, and the body
   as the pipeline calls it. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The region finds every buffer but the three reshaped weights as launched. -/
theorem V_arg (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-! ## The prefetched tables -/

/-- The tables' contents when the region is entered. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The pipeline's side condition of the tables. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body is handed them. -/
abbrev tb0 : Memref sig .tc .smem S448 .i32 := Memref.whole main_arg0
abbrev tb1 : Memref sig .tc .smem S448 .i32 := Memref.whole main_arg1
abbrev tb2 : Memref sig .tc .smem S1 .i32 := Memref.whole main_arg2

/-- A table's buffer on core `c`, and half of it held at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem tables_eq (c : Dev nD) :
    (Pipeline.ΦT pre0 (tbl m) c : sProp 𝕄) = iprop(tbPt c tb0 (tbl m 0) ∗ tbPt c tb1 (tbl m 1) ∗ tbPt c tb2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- An input's staging buffer holds its block at every point, for any proof data that starts from the region's arrays and
    leaves the block in place. -/
theorem before_of (hO : Ok m) {c : Dev nD} (dat : Dat τ (Elt F) Unit ℕ (UR sig nD τ) ℕ (cfgM m hO) c) :
    (dat.A 0 = V m c (Pipeline.arrRef spec0 0) → (∀ t, dat.after 0 t = iblk m hO c 0 t) → ∀ t d, dat.before 0 t d = iblk m hO c 0 t)
    ∧ (dat.A 1 = V m c (Pipeline.arrRef spec0 1) → (∀ t, dat.after 1 t = iblk m hO c 1 t) → ∀ t d, dat.before 1 t d = iblk m hO c 1 t)
    ∧ (dat.A 2 = V m c (Pipeline.arrRef spec0 2) → (∀ t, dat.after 2 t = iblk m hO c 2 t) → ∀ t d, dat.before 2 t d = iblk m hO c 2 t)
    ∧ (dat.A 3 = V m c (Pipeline.arrRef spec0 3) → (∀ t, dat.after 3 t = iblk m hO c 3 t) → ∀ t d, dat.before 3 t d = iblk m hO c 3 t) := by
  refine ⟨fun hA ha t d => ?_, fun hA ha t d => ?_, fun hA ha t d => ?_, fun hA ha t d => ?_⟩
  · exact (dat.before_in_eq_fetched 0 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 1 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 2 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 3 rfl (fun _ => rfl) (fun _ _ _ => rfl) (fun t => by rw [ha]; unfold Dat.blockOf iblk; rw [hA]; try rfl) t d).trans
      (by unfold Dat.fetched Dat.blockOf iblk; rw [hA]; try rfl)

/-! ## The body as the pipeline calls it -/

/-- Each window's current staging memref at point `t`. -/
abbrev ms0 (hO : Ok m) (t : Fin (cfgM m hO).N) : Memref sig .tc .vmem S2048x1024 .bf16 := spec0_0.stage ((cfgM m hO).slots t 0)
abbrev ms1 (hO : Ok m) (t : Fin (cfgM m hO).N) : Memref sig .tc .vmem S1x1024x256 .f32 := spec0_1.stage ((cfgM m hO).slots t 1)
abbrev ms2 (hO : Ok m) (t : Fin (cfgM m hO).N) : Memref sig .tc .vmem S1x1024x256 .f32 := spec0_2.stage ((cfgM m hO).slots t 2)
abbrev ms3 (hO : Ok m) (t : Fin (cfgM m hO).N) : Memref sig .tc .vmem S1x256x1024 .f32 := spec0_3.stage ((cfgM m hO).slots t 3)
abbrev ms4 (hO : Ok m) (t : Fin (cfgM m hO).N) : Memref sig .tc .vmem S2048x1024 .bf16 := spec0_4.stage ((cfgM m hO).slots t 4)

/-- The body at point `t`. -/
abbrev bodyAt (hO : Ok m) (t : Fin (cfgM m hO).N) : Prog (TpuEff nD τ sig (Elt F) Λ₀ .tc) PUnit :=
  cc0_gmm (grid0.coords t) tb0 (Memref.isWhole_whole _) tb1 (Memref.isWhole_whole _) tb2 (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4))

end Cert.Kernel2Ideal.Experts

end
-- ==== Proof.ExpertsRun.lean ====
/- The experts' products, one grid point: what the body leaves in the output's buffer, with used rows in the block and
   without. -/
module

public import proofs.«01_k».proof.Proof.ExpertsKit
public import Idealize.ShloMosaic.Lib.VecWindow
public import Idealize.ShloMosaic.Lib.Pipeline.ReadBack

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- The count of used rows, as the body reads it at a grid point. -/
abbrev word (c : Dev nD) (xt : TbBuf (F := F) c tb1) (i : grid0.Coords) : BitVec 32 :=
  xt ((Rect.unit (s := S448) (k0_off1 i) S1.size (k0_off1_inb i)).point numel1_S1)

theorem hz2 : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (arg4 : Memref sig .tc .vmem S2048x1024 .bf16) (harg4 : arg4.IsWhole)
  (arg5 : Memref sig .tc .vmem S1x1024x256 .f32) (harg5 : arg5.IsWhole) (arg6 : Memref sig .tc .vmem S1x1024x256 .f32) (harg6 : arg6.IsWhole)
  (arg7 : Memref sig .tc .vmem S1x256x1024 .f32) (harg7 : arg7.IsWhole) (arg8 : Memref sig .tc .vmem S2048x1024 .bf16) (harg8 : arg8.IsWhole)
  (x0 : Vec F S2048x1024 .bf16) (x1 x2 : Vec F S1x1024x256 .f32) (x3 : Vec F S1x256x1024 .f32)
  (xt0 : TbBuf (F := F) c tb0) (xt1 : TbBuf (F := F) c tb1) (xt2 : TbBuf (F := F) c tb2)

/-- The staged inputs and the tables, held. -/
def held : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ tbPt c tb0 xt0 ∗ tbPt c tb1 xt1 ∗ tbPt c tb2 xt2)

/-- The body on staging memrefs `arg4`–`arg8`. -/
abbrev body : Prog (TpuEff nD τ sig (Elt F) Λ₀ .tc) PUnit :=
  cc0_gmm i tb0 (Memref.isWhole_whole _) tb1 (Memref.isWhole_whole _) tb2 (Memref.isWhole_whole _)
    arg4 harg4 arg5 harg5 arg6 harg6 arg7 harg7 arg8 harg8

set_option maxHeartbeats 1000000 in
/-- A block with used rows: the body leaves its result in the output's buffer. -/
theorem run_live (hc : k0_cond1 (word c xt1 i) = 1#1) (E : Set ℕ) (K : PUnit → sProp 𝕄) :
    iprop(held c arg4 arg5 arg6 arg7 x0 x1 x2 x3 xt0 xt1 xt2 ∗ (∃ d, owns (c : Thread nD τ) arg8 fullShare d)
        ∗ (iprop(held c arg4 arg5 arg6 arg7 x0 x1 x2 x3 xt0 xt1 xt2
            ∗ owns (c : Thread nD τ) arg8 fullShare (k0_pay1 (word c xt1 i) x0 x1 x2 x3)) -∗ K ⟨⟩))
      ⊢ wp frame (wpE (defs₀ (F := F)) Variants.none c none) E (body i arg4 harg4 arg5 harg5 arg6 harg6 arg7 harg7 arg8 harg8) K := by
  unfold body held
  simp only [cc0_gmm_eq_skeleton]; unfold cc0_gmm_skel
  unfold owns
  iintro ⟨⟨⟨%f0, %hf0, H0⟩, ⟨%f1, %hf1, H1⟩, ⟨%f2, %hf2, H2⟩, ⟨%f3, %hf3, H3⟩, HT0, HT1, HT2⟩, ⟨%d4, %f4, -, H4⟩, Hk⟩
  obtain rfl := harg4.eq_unread hf0; obtain rfl := harg5.eq_unread hf1; obtain rfl := harg6.eq_unread hf2; obtain rfl := harg7.eq_unread hf3
  sl_exec
  sl_step
  iapply Hk
  isplitr [H4]
  · isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HT0]; · iexact HT0
    isplitl [HT1]; · iexact HT1
    iexact HT2
  iexists _; isplitr
  swap; · iexact H4
  ipureintro
  rw [View.read_writes_full]
  simp only [View.readAt_eq_ld, harg4.read_unread, harg5.read_unread, harg6.read_unread, harg7.read_unread]
  rw [View.ld_unit_zero (S := S2048x1024) hz2, View.ld_unit_zero (S := S1x1024x256) hz3, View.ld_unit_zero (S := S1x1024x256) hz3,
    View.ld_unit_zero (S := S1x256x1024) hz3]
  rfl

set_option maxHeartbeats 1000000 in
/-- A block without used rows: the body leaves every buffer as it is. -/
theorem run_idle (d : Vec F S2048x1024 .bf16) (hc : ¬ k0_cond1 (word c xt1 i) = 1#1) (E : Set ℕ) (K : PUnit → sProp 𝕄) :
    iprop(held c arg4 arg5 arg6 arg7 x0 x1 x2 x3 xt0 xt1 xt2 ∗ owns (c : Thread nD τ) arg8 fullShare d
        ∗ (iprop(held c arg4 arg5 arg6 arg7 x0 x1 x2 x3 xt0 xt1 xt2 ∗ owns (c : Thread nD τ) arg8 fullShare d) -∗ K ⟨⟩))
      ⊢ wp frame (wpE (defs₀ (F := F)) Variants.none c none) E (body i arg4 harg4 arg5 harg5 arg6 harg6 arg7 harg7 arg8 harg8) K := by
  unfold body held
  simp only [cc0_gmm_eq_skeleton]; unfold cc0_gmm_skel
  iintro ⟨⟨H0, H1, H2, H3, HT0, HT1, HT2⟩, H4, Hk⟩
  sl_exec
  sl_step
  iapply Hk
  isplitr [H4]
  · isplitl [H0]; · iexact H0
    isplitl [H1]; · iexact H1
    isplitl [H2]; · iexact H2
    isplitl [H3]; · iexact H3
    isplitl [HT0]; · iexact HT0
    isplitl [HT1]; · iexact HT1
    iexact HT2
  iexact H4

end

end Cert.Kernel2Ideal.Experts

end
-- ==== Proof.ExpertsFrame.lean ====
/- The experts' products, the whole pipeline: what the output's buffer holds point by point, the body's obligation and the
   run, for tables whose used blocks come first. -/
module

public import proofs.«01_k».proof.Proof.ExpertsRun
public import Idealize.ShloMosaic.Lib.Pipeline.TableIdle
public import Idealize.ShloMosaic.Lib.Claim

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first `n` blocks are the used ones: the body stores at exactly those points, and past them the pipeline stays on
    the last one. -/
structure Used (hO : Ok m) (n : ℕ) : Prop where
  pos : 1 ≤ n
  live : ∀ t : Fin (cfgM m hO).N, k0_cond1 (word 0 (tbl m 1) (grid0.coords t)) = 1#1 ↔ t.val < n
  idle : ∀ t : Fin (cfgM m hO).N, (cfgM m hO).idle 4 (grid0.coords t) = true ↔ n ≤ t.val
  stay : ∀ t t' : Fin (cfgM m hO).N, t'.val + 1 = t.val → n ≤ t.val → ((cfgM m hO).win 4).index t = ((cfgM m hO).win 4).index t'

/-- The used block a point is on. -/
def last (hO : Ok m) (n : ℕ) (t : Fin (cfgM m hO).N) : Fin (cfgM m hO).N := ⟨min t.val (n - 1), lt_of_le_of_lt (min_le_left _ _) t.isLt⟩

/-- What the output's buffer holds after point `t`: the result of the used block the point is on. -/
def outs (hO : Ok m) (n : ℕ) (c : Dev nD) (t : Fin (cfgM m hO).N) : Vec F S2048x1024 .bf16 :=
  k0_pay1 (word 0 (tbl m 1) (grid0.coords (last m hO n t))) (iblk m hO c 0 (last m hO n t)) (iblk m hO c 1 (last m hO n t))
    (iblk m hO c 2 (last m hO n t)) (iblk m hO c 3 (last m hO n t))

/-- The pipeline's proof data on core `c`. -/
def dats (hO : Ok m) (n : ℕ) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outs m hO n c t
  Φ _ := iprop(Pipeline.ΦA spec0 c ∗ Pipeline.ΦT pre0 (tbl m) c)
  q _ := fullShare
  owed _ := 0

section

variable (hO : Ok m) (n : ℕ) (c : Dev nD)

theorem A_eq (w : Fin (cfgM m hO).W) : (dats m hO n 0 c).A w = V m c (Pipeline.arrRef spec0 w) := by
  dsimp only [dats]

theorem after_0 (t : Fin (cfgM m hO).N) : (dats m hO n 0 c).after 0 t = iblk m hO c 0 t := by dsimp only [dats]; try rfl
theorem after_1 (t : Fin (cfgM m hO).N) : (dats m hO n 0 c).after 1 t = iblk m hO c 1 t := by dsimp only [dats]; try rfl
theorem after_2 (t : Fin (cfgM m hO).N) : (dats m hO n 0 c).after 2 t = iblk m hO c 2 t := by dsimp only [dats]; try rfl
theorem after_3 (t : Fin (cfgM m hO).N) : (dats m hO n 0 c).after 3 t = iblk m hO c 3 t := by dsimp only [dats]; try rfl
theorem after_4 (t : Fin (cfgM m hO).N) : (dats m hO n 0 c).after 4 t = outs m hO n c t := by dsimp only [dats]; try rfl

theorem before_0 (t : Fin (cfgM m hO).N) (d) : (dats m hO n 0 c).before 0 t d = iblk m hO c 0 t :=
  (before_of m hO (dats m hO n 0 c)).1 (A_eq m hO n c 0) (after_0 m hO n c) t d
theorem before_1 (t : Fin (cfgM m hO).N) (d) : (dats m hO n 0 c).before 1 t d = iblk m hO c 1 t :=
  (before_of m hO (dats m hO n 0 c)).2.1 (A_eq m hO n c 1) (after_1 m hO n c) t d
theorem before_2 (t : Fin (cfgM m hO).N) (d) : (dats m hO n 0 c).before 2 t d = iblk m hO c 2 t :=
  (before_of m hO (dats m hO n 0 c)).2.2.1 (A_eq m hO n c 2) (after_2 m hO n c) t d
theorem before_3 (t : Fin (cfgM m hO).N) (d) : (dats m hO n 0 c).before 3 t d = iblk m hO c 3 t :=
  (before_of m hO (dats m hO n 0 c)).2.2.2 (A_eq m hO n c 3) (after_3 m hO n c) t d

end

section

variable {m} {hO : Ok m} {n : ℕ} (hU : Used m hO n) (c : Dev nD)

include hU

/-- A used block's point is on its own block. -/
theorem last_live (t : Fin (cfgM m hO).N) (ht : t.val < n) : last m hO n t = t :=
  Fin.ext (by unfold last; simp only []; omega)

/-- Past the used blocks nothing changes. -/
theorem last_idle (t t' : Fin (cfgM m hO).N) (e : t'.val + 1 = t.val) (ht : n ≤ t.val) : last m hO n t = last m hO n t' :=
  Fin.ext (by have := hU.pos; unfold last; simp only []; omega)

/-- The point before one past the used blocks does not write the block back. -/
theorem flush_before (t t' : Fin (cfgM m hO).N) (e : t'.val + 1 = t.val) (ht : n ≤ t.val) : ((cfgM m hO).win 4).flush t' = false := by
  have hN : t'.val + 1 < (cfgM m hO).N := e ▸ t.isLt
  have et : (⟨t'.val + 1, hN⟩ : Fin (cfgM m hO).N) = t := Fin.ext e
  unfold Pipeline.Window.flush
  rw [Bool.and_eq_false_iff]; right
  rw [Bool.or_eq_false_iff]
  refine ⟨decide_eq_false fun h => absurd h hN.ne, decide_eq_false ?_⟩
  rintro ⟨h, hne⟩
  exact hne ((congrArg _ et).trans (hU.stay t t' e ht))

/-- At a point past the used blocks the buffer holds what an earlier point stored. -/
theorem fresh_idle : ∀ (k : ℕ) (t : Fin (cfgM m hO).N), t.val = k → n ≤ t.val → (cfgM m hO).fresh 4 t.val = false
  | 0, t, hk, ht => absurd ht (by have := hU.pos; omega)
  | k + 1, t, hk, ht => by
    have hlt : k < (cfgM m hO).N := by have := t.isLt; omega
    rw [hk, Cfg.fresh_succ (cfgM m hO) 4 k hlt, flush_before hU t ⟨k, hlt⟩ hk.symm ht, Bool.false_or]
    by_cases hi : n ≤ k
    · rw [fresh_idle k ⟨k, hlt⟩ rfl hi, Bool.and_false]
    · have h : (cfgM m hO).idle 4 ((cfgM m hO).grid.coords ⟨k, hlt⟩) = false :=
        Bool.eq_false_iff.mpr fun h => hi ((hU.idle ⟨k, hlt⟩).mp h)
      rw [h, Bool.false_and]

/-- Past the used blocks the body finds what it leaves. -/
theorem before_idle (t : Fin (cfgM m hO).N) (ht : n ≤ t.val) (d) : (dats m hO n 0 c).before 4 t d = outs m hO n c t := by
  have hp := hU.pos
  rw [(dats m hO n 0 c).before_out_traj 4 rfl (fun _ _ => rfl) (fun t h0 hi hf => by
      rw [after_4, after_4]; unfold outs
      rw [last_idle hU t ⟨t.val - 1, by omega⟩ (by simp only []; omega) ((hU.idle t).mp hi)]) _ t rfl d,
    if_neg (by rw [fresh_idle hU _ t rfl ht]; exact Bool.false_ne_true), after_4]
  unfold outs
  rw [last_idle hU t ⟨t.val - 1, by omega⟩ (by simp only []; omega) ht]

end

/-- What the body is called with at point `t`, -/
def bodyPre (hO : Ok m) (n : ℕ) (c : Dev nD) (t : Fin (cfgM m hO).N) : sProp 𝕄 :=
  iprop((dats m hO n 0 c).Φ t.castSucc ∗ (dats m hO n 0 c).owesAt () t.castSucc
    ∗ (∃ d, owns (c : Thread nD τ) (ms0 m hO t) fullShare ((dats m hO n 0 c).before 0 t d))
    ∗ (∃ d, owns (c : Thread nD τ) (ms1 m hO t) fullShare ((dats m hO n 0 c).before 1 t d))
    ∗ (∃ d, owns (c : Thread nD τ) (ms2 m hO t) fullShare ((dats m hO n 0 c).before 2 t d))
    ∗ (∃ d, owns (c : Thread nD τ) (ms3 m hO t) fullShare ((dats m hO n 0 c).before 3 t d))
    ∗ (∃ d, owns (c : Thread nD τ) (ms4 m hO t) fullShare ((dats m hO n 0 c).before 4 t d)))

/-- and what it returns. -/
def bodyPost (hO : Ok m) (n : ℕ) (c : Dev nD) (t : Fin (cfgM m hO).N) : sProp 𝕄 :=
  iprop((dats m hO n 0 c).Φ t.succ ∗ (dats m hO n 0 c).owesAt () t.succ
    ∗ owns (c : Thread nD τ) (ms0 m hO t) fullShare ((dats m hO n 0 c).after 0 t)
    ∗ owns (c : Thread nD τ) (ms1 m hO t) fullShare ((dats m hO n 0 c).after 1 t)
    ∗ owns (c : Thread nD τ) (ms2 m hO t) fullShare ((dats m hO n 0 c).after 2 t)
    ∗ owns (c : Thread nD τ) (ms3 m hO t) fullShare ((dats m hO n 0 c).after 3 t)
    ∗ owns (c : Thread nD τ) (ms4 m hO t) fullShare ((dats m hO n 0 c).after 4 t))

/-- The body at any point. -/
theorem sound_body {hO : Ok m} {n : ℕ} (hU : Used m hO n) (c : Dev nD) (t : Fin (cfgM m hO).N) :
    bodyPre m hO n c t ⊢ wp frame (wpE (defs₀ (F := F)) Variants.none c none) Set.univ (bodyAt m hO t) (fun _ => bodyPost m hO n c t) := by
  unfold bodyPre bodyPost bodyAt
  simp only [before_0, before_1, before_2, before_3]
  rw [show (dats m hO n 0 c).Φ t.succ = (dats m hO n 0 c).Φ t.castSucc from rfl,
    show (dats m hO n 0 c).owesAt () t.succ = (dats m hO n 0 c).owesAt () t.castSucc from rfl,
    after_0, after_1, after_2, after_3, after_4]
  rw [show (dats m hO n 0 c).Φ t.castSucc = iprop(Pipeline.ΦA spec0 c ∗ Pipeline.ΦT pre0 (tbl m) c) from rfl, tables_eq]
  obtain rfl : c = 0 := Subsingleton.elim _ _
  by_cases hl : t.val < n
  · have hc := (hU.live t).mpr hl
    unfold outs
    rw [last_live hU t hl]
    iintro ⟨⟨HΦ, ⟨HT0, HT1, HT2⟩⟩, Ho, ⟨%d0, H0⟩, ⟨%d1, H1⟩, ⟨%d2, H2⟩, ⟨%d3, H3⟩, ⟨%d4, H4⟩⟩
    iapply (run_live 0 (grid0.coords t) _ _ _ _ _ _ _ _ _ _ (iblk m hO 0 0 t) (iblk m hO 0 1 t) (iblk m hO 0 2 t) (iblk m hO 0 3 t) (tbl m 0) (tbl m 1) (tbl m 2) hc Set.univ _)
    isplitl [H0 H1 H2 H3 HT0 HT1 HT2]
    · unfold held
      isplitl [H0]; · iexact H0
      isplitl [H1]; · iexact H1
      isplitl [H2]; · iexact H2
      isplitl [H3]; · iexact H3
      isplitl [HT0]; · iexact HT0
      isplitl [HT1]; · iexact HT1
      iexact HT2
    isplitl [H4]; · iexists _; iexact H4
    unfold held
    iintro ⟨⟨H0, H1, H2, H3, HT0, HT1, HT2⟩, H4⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  · have hc : ¬ k0_cond1 (word 0 (tbl m 1) (grid0.coords t)) = 1#1 := fun h => hl ((hU.live t).mp h)
    simp only [before_idle hU 0 t (Nat.le_of_not_lt hl)]
    iintro ⟨⟨HΦ, ⟨HT0, HT1, HT2⟩⟩, Ho, ⟨%d0, H0⟩, ⟨%d1, H1⟩, ⟨%d2, H2⟩, ⟨%d3, H3⟩, ⟨%d4, H4⟩⟩
    iapply (run_idle 0 (grid0.coords t) _ _ _ _ _ _ _ _ _ _ (iblk m hO 0 0 t) (iblk m hO 0 1 t) (iblk m hO 0 2 t) (iblk m hO 0 3 t) (tbl m 0) (tbl m 1) (tbl m 2) (outs m hO n 0 t) hc Set.univ _)
    isplitl [H0 H1 H2 H3 HT0 HT1 HT2]
    · unfold held
      isplitl [H0]; · iexact H0
      isplitl [H1]; · iexact H1
      isplitl [H2]; · iexact H2
      isplitl [H3]; · iexact H3
      isplitl [HT0]; · iexact HT0
      isplitl [HT1]; · iexact HT1
      iexact HT2
    isplitl [H4]; · iexact H4
    unfold held
    iintro ⟨⟨H0, H1, H2, H3, HT0, HT1, HT2⟩, H4⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4

/-- The body table's row at point `t` is the body. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output's buffer as the pipeline takes it back. -/
theorem leaves_out {hO : Ok m} {n : ℕ} (hU : Used m hO n) (c : Dev nD) (t : Fin (cfgM m hO).N) :
    owns (c : Thread nD τ) (ms4 m hO t) fullShare ((dats m hO n 0 c).after 4 t)
      ⊢ (match (cfgM m hO).idle 4 ((cfgM m hO).grid.coords t) with
        | true =>
          match ((cfgM m hO).win 4).flush t with
          | false => iprop(∃ d, owns (c : Thread nD τ) (ms4 m hO t) fullShare ((dats m hO n 0 c).before 4 t d))
          | true => owns (c : Thread nD τ) (ms4 m hO t) fullShare ((dats m hO n 0 c).after 4 t)
        | false => owns (c : Thread nD τ) (ms4 m hO t) fullShare ((dats m hO n 0 c).after 4 t) : sProp 𝕄) := by
  cases hi : (cfgM m hO).idle 4 ((cfgM m hO).grid.coords t)
  · exact .rfl
  · cases ((cfgM m hO).win 4).flush t
    · simp only [before_idle hU c t ((hU.idle t).mp hi), after_4]
      iintro H
      iexists (outs m hO n c t)
      iexact H
    · exact .rfl

/-- The library's body obligation, at every point. -/
theorem body_obligation {hO : Ok m} {n : ℕ} (hU : Used m hO n) (c : Dev nD) :
    BodyObligation (dats (F := F) m hO n 0 c) (defs₀ (F := F)) Variants.none () Set.univ := fun t => by
  rw [bigSep_W0, bigSep_W0, defs₀_row m hO]
  refine triple_restated (sound_body m hU c t) rfl .rfl fun _ => ?_
  exact sep_mono .rfl (sep_mono .rfl (sep_mono .rfl (sep_mono .rfl (sep_mono .rfl (sep_mono .rfl (leaves_out m hU c t))))))

set_option backward.isDefEq.respectTransparency.types false in
/-- The launch: every execution ends, with the pipeline's arrays as the proof data says and no semaphore held. -/
theorem run_main {hO : Ok m} {n : ℕ} (hU : Used m hO n) : θ_run defs (onTc (τ := τ) (main (F := F))) (s₀ m ρ)
    (fun r => (Pipeline.FramePost (Pipeline.pin pcfgs fun _ => adm m hO) (dats m hO n) 0 (V m)) r ∧ r.2.sem = fun _ => 0) :=
  Pipeline.θ_run_frameP (Q' := _) pcfgs (fun _ => adm m hO) (dats m hO n) (0 : Fin 1) launch0 defs₀ Variants.none m ρ main
    (hbody := fun c => (body_obligation m hU c).loose) (hshare := fun c => (dats m hO n 0 c).share_full fun _ => rfl)
    (howed := fun _ _ => rfl) (V := V m) (hmain := hmain m Variants.none) (hA := A_eq m hO n) (hpf := V_pre m)
    (hΦ := fun _ _ => rfl)

/-- The run's result and its arguments: the result is the output window's final array, the arguments are unchanged, and no
    semaphore is held. -/
theorem run {hO : Ok m} {n : ℕ} (hU : Used m hO n) : θ_run defs (onTc (τ := τ) (main (F := F))) ⟨m, fun _ => 0, ρ⟩ (fun r => (∀ c : Dev nD,
      r.2.mem ((c.tc : Thread nD τ).loc main_v3) = (dats m hO n 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 4,
      ((h.1 c).2 main_arg0 (by decide : main_arg0 ∈ Pipeline.restRefs sig spec0)).trans (V_arg m c main_arg0 (by decide) (by decide) (by decide)),
      ((h.1 c).2 main_arg1 (by decide : main_arg1 ∈ Pipeline.restRefs sig spec0)).trans (V_arg m c main_arg1 (by decide) (by decide) (by decide)),
      ((h.1 c).2 main_arg2 (by decide : main_arg2 ∈ Pipeline.restRefs sig spec0)).trans (V_arg m c main_arg2 (by decide) (by decide) (by decide)),
      ((h.1 c).1 0).trans (((dats m hO n 0 c).arrAt_in 0 rfl _).trans ((A_eq m hO n c 0).trans (V_arg m c main_arg3 (by decide) (by decide) (by decide)))),
      ((h.1 c).2 main_arg4 (by decide : main_arg4 ∈ Pipeline.restRefs sig spec0)).trans (V_arg m c main_arg4 (by decide) (by decide) (by decide)),
      ((h.1 c).2 main_arg5 (by decide : main_arg5 ∈ Pipeline.restRefs sig spec0)).trans (V_arg m c main_arg5 (by decide) (by decide) (by decide)),
      ((h.1 c).2 main_arg6 (by decide : main_arg6 ∈ Pipeline.restRefs sig spec0)).trans (V_arg m c main_arg6 (by decide) (by decide) (by decide))⟩, h.2⟩)
    (run_main m ρ hU)

end Cert.Kernel2Ideal.Experts

end
-- ==== Proof.ExpertsTables.lean ====
/- The experts' tables in plain numbers: every block's expert is one of the 64, and the used blocks are the first `n`. -/
module

public import proofs.«01_k».proof.Proof.Gen.Pre_used_blocks
public import proofs.«01_k».proof.Proof.Gen.On_rows_used
public import Idealize.ShloMosaic.Lib.WordCmp
public import Idealize.ShloMosaic.Lib.Pointwise

@[expose] public section

noncomputable section

namespace Cert.Experts

open Idealize.ShloMosaic

variable {F : FTy → Type} [FloatOps F]

/-- Every block's expert is one of the 64, and the blocks with rows to compute are the first `n`. -/
structure First (be nv : IVec ⟨1, ![448]⟩ 32) (nb : IVec ⟨1, ![1]⟩ 32) (n : ℕ) : Prop where
  lo : 1 ≤ n
  hi : n ≤ 448
  expert : ∀ i : Fin 448, (be (ix1 i)).toNat < 64
  count : ∀ i, nb i = BitVec.ofNat 32 n
  rows : ∀ i : Fin 448, 0 < (nv (ix1 i)).toInt ↔ i.val < n

theorem ofBool_eq_one {b : Bool} : BitVec.ofBool b = 1#1 ↔ b = true := by cases b <;> decide

theorem and_eq_one {a b : BitVec 1} (h : a &&& b = 1#1) : a = 1#1 ∧ b = 1#1 := by
  revert a b; decide

theorem bit_eq {a b : BitVec 1} : (BitVec.ofBool (a == b) = 1#1) ↔ (a = 1#1 ↔ b = 1#1) := by
  revert a b; decide

/-- The sum of a row's products with one column of weights, a row past its block's count taken as zeros (`c` says whether the row counts). -/
def dotted (c : BitVec 1) (x w : Fin 1024 → EReal) : EReal := ∑ k, Scalar.select c (x k * w k) 0

/-- One entry of an expert's result: the gated product of the row with the two weights, multiplied into a column of the third. -/
def entry (c : BitVec 1) (x : Fin 1024 → EReal) (g u : Fin 1024 → Fin 256 → EReal) (d : Fin 256 → EReal) : EReal :=
  ∑ h, dotted c x (fun k => g k h) * Ideal.logistic (dotted c x fun k => g k h) * dotted c x (fun k => u k h) * d h

/-- Row `r` of block `b`. -/
def row (b : Fin 448) (r : Fin 2048) : Fin 917504 := ⟨b.val * 2048 + r.val, by omega⟩

/-- The precondition in plain numbers. -/
theorem first_of (be nv : IVec ⟨1, ![448]⟩ 32) (nb : IVec ⟨1, ![1]⟩ 32) (x : FVec F ⟨2, ![917504, 1024]⟩ .bf16)
    (g u : FVec F ⟨4, ![1, 64, 1024, 256]⟩ .f32) (d : FVec F ⟨4, ![1, 64, 256, 1024]⟩ .f32)
    (h0 : (Cert.Pre_used_blocks.fn be nv nb x g u d).1 = fun _ => 1#1)
    (h1 : (Cert.Pre_used_blocks.fn be nv nb x g u d).2.1 = fun _ => 1#1)
    (h2 : (Cert.Pre_used_blocks.fn be nv nb x g u d).2.2 = fun _ => 1#1) :
    First be nv nb (nb (ix1 0)).toNat := by
  have e0 : ∀ i : Fin 448, BitVec.ofBool (decide ((0#32).toInt ≤ (be (ix1 i)).toInt)) &&& BitVec.ofBool (decide ((be (ix1 i)).toInt < (64#32).toInt)) = 1#1 :=
    fun i => congrFun h0 (ix1 i)
  have e1 : BitVec.ofBool (decide ((1#32).toInt ≤ (nb (ix1 0)).toInt)) &&& BitVec.ofBool (decide ((nb (ix1 0)).toInt ≤ (448#32).toInt)) = 1#1 :=
    congrFun h1 (ix1 0)
  have hs : ∀ i : (⟨1, ![1]⟩ : Shape).Idx, nb i = nb (ix1 0) := fun i => congrArg nb (by rw [eq_ix1 i]; congr 1; exact Subsingleton.elim _ _)
  have e2 : ∀ i : Fin 448, BitVec.ofBool (BitVec.ofBool (decide ((0#32).toInt < (nv (ix1 i)).toInt))
      == BitVec.ofBool (decide ((BitVec.ofNat 32 i.val).toInt < (nb (ix1 0)).toInt))) = 1#1 := fun i => by
    rw [← hs ((shapeCast Cert.Pre_used_blocks.S_ · Cert.Pre_used_blocks.Facts.shapeCasts_S1_S_) id default)]
    exact congrFun h2 (ix1 i)
  have p1 := and_eq_one e1
  simp only [ofBool_eq_one, decide_eq_true_eq] at p1
  obtain ⟨l, u⟩ := p1
  have hl : (1#32).toInt = 1 := by decide
  have hu : (448#32).toInt = 448 := by decide
  rw [hl] at l; rw [hu] at u
  have hn : (nb (ix1 0)).toInt = ((nb (ix1 0)).toNat : ℤ) := by
    rw [BitVec.toInt_eq_toNat_cond] at l u ⊢
    have := (nb (ix1 0)).isLt
    split <;> rename_i hc <;> simp only [hc, if_true, if_false] at l u <;> omega
  refine ⟨by omega, by omega, fun i => ?_, fun i => ?_, fun i => ?_⟩
  · have p := and_eq_one (e0 i)
    simp only [ofBool_eq_one, decide_eq_true_eq] at p
    obtain ⟨a, b⟩ := p
    have h64 : (64#32).toInt = 64 := by decide
    have hz : (0#32).toInt = 0 := by decide
    rw [hz] at a; rw [h64] at b
    rw [BitVec.toInt_eq_toNat_cond] at a b
    have := (be (ix1 i)).isLt
    split at a <;> rename_i hc <;> simp only [hc, if_true, if_false] at b <;> omega
  · rw [hs i, BitVec.ofNat_toNat, BitVec.setWidth_eq]
  · have p := bit_eq.mp (e2 i)
    simp only [ofBool_eq_one, decide_eq_true_eq] at p
    have hz : (0#32).toInt = 0 := by decide
    have hi : (BitVec.ofNat 32 i.val).toInt = (i.val : ℤ) := by
      have := i.isLt
      rw [BitVec.toInt_eq_toNat_cond, BitVec.toNat_ofNat, Nat.mod_eq_of_lt (by omega), if_pos (by omega)]
    rw [hz, hi, hn] at p
    rw [p]; omega

/-- The mask in plain numbers: the rows of the first `n` blocks. -/
theorem mask_of {be nv : IVec ⟨1, ![448]⟩ 32} {nb : IVec ⟨1, ![1]⟩ 32} {n : ℕ} (hF : First be nv nb n) (x : FVec F ⟨2, ![917504, 1024]⟩ .bf16)
    (g u : FVec F ⟨4, ![1, 64, 1024, 256]⟩ .f32) (d : FVec F ⟨4, ![1, 64, 256, 1024]⟩ .f32) (i : (⟨2, ![917504, 1024]⟩ : Shape).Idx)
    (h : Cert.On_rows_used.fn be nv nb x g u d i = 1#1) : (i 0).val < n * 2048 := by
  have e : BitVec.ofBool (decide ((BitVec.ofNat 32 (i 0).val).toInt < (BitVec.ofNat 32 n * 2048#32).toInt)) = 1#1 := by
    rw [← hF.count ((shapeCast Cert.On_rows_used.S_ · Cert.On_rows_used.Facts.shapeCasts_S1_S_) id default)]
    exact h
  have hi : (i 0).val < 917504 := (i 0).isLt
  have hn := hF.hi
  simp only [ofBool_eq_one, decide_eq_true_eq] at e
  have a : (BitVec.ofNat 32 (i 0).val).toInt = ((i 0).val : ℤ) := by
    rw [BitVec.toInt_eq_toNat_cond, BitVec.toNat_ofNat, Nat.mod_eq_of_lt (by omega), if_pos (by omega)]
  have b : (BitVec.ofNat 32 n * 2048#32).toInt = ((n * 2048 : ℕ) : ℤ) := by
    have : BitVec.ofNat 32 n * 2048#32 = BitVec.ofNat 32 (n * 2048) := by
      apply BitVec.eq_of_toNat_eq; simp only [BitVec.toNat_mul, BitVec.toNat_ofNat]; omega
    rw [this, BitVec.toInt_eq_toNat_cond, BitVec.toNat_ofNat, Nat.mod_eq_of_lt (by omega), if_pos (by omega)]
  rw [a, b] at e
  exact_mod_cast e

end Cert.Experts

end
-- ==== Proof.ExpertsUsed.lean ====
/- The experts' products: tables whose used blocks come first meet the pipeline's side condition, and what the body and the
   index maps read of them. -/
module

public import proofs.«01_k».proof.Proof.ExpertsFrame
public import proofs.«01_k».proof.Proof.ExpertsTables

@[expose] public section

set_option maxRecDepth 16384

noncomputable section

namespace Cert.Kernel2Ideal.Experts

open Idealize.ShloMosaic Idealize.ShloMosaic.TcCoe
open Cert.Kernel2Ideal.Gen Cert.Experts

variable {F : FTy → Type} [FloatOps F]

/-- The body's condition: the block has rows. -/
theorem cond_iff (w : BitVec 32) : k0_cond1 w = 1#1 ↔ 0 < w.toInt := by
  have h : ∀ b : BitVec 1, IntOp.cmpi .ne (b.setWidth 32) 0#32 = b := by decide
  have e : k0_cond1 w = BitVec.ofBool (decide ((0#32).toInt < w.toInt)) := h _
  have hz : (0#32).toInt = 0 := by decide
  rw [e, ofBool_eq_one, decide_eq_true_eq, hz]

section

variable (i : grid0.Coords)

theorem off_val : k0_off1 i 0 = (i 0).val := by
  have := (i 0).isLt
  have h : (i 0).val < 448 := this
  show (BitVec.ofNat 32 (i 0).val).toNat = _
  rw [BitVec.toNat_ofNat]; omega

theorem point_eq (h : ∀ a, k0_off1 i a + S1.size a ≤ S448.size a) (h1 : S1.numel = 1) :
    (Rect.unit (s := S448) (k0_off1 i) S1.size h).point h1 = ix1 (i 0) := by
  funext a
  match a with
  | ⟨0, _⟩ => exact Fin.ext (by rw [Rect.point, Rect.emb_apply]; exact off_val i)

theorem word_eq (c : Dev nD) (x : TbBuf (F := F) c tb1) : word c x i = x (ix1 (i 0)) := congrArg x (point_eq i _ _)

theorem atD_eq (pf : pre0.Contents (Elt F)) : pf.atD 1 (k0_off1 i) = pf 1 (ix1 (i 0)) := by
  have h : ∀ a : Fin 1, k0_off1 i a + 1 ≤ S448.size a := fun a => match a with
    | ⟨0, _⟩ => k0_off1_inb i 0
  refine (dif_pos h).trans (congrArg (pf 1) ?_)
  funext a
  match a with
  | ⟨0, _⟩ => exact Fin.ext (off_val i)

variable {pf : pre0.Contents (Elt F)} {n : ℕ} (hF : First (pf 0) (pf 1) (pf 2) n)

include hF

theorem min_val : (IntOp.minsi (BitVec.ofNat 32 (i 0).val) (BitVec.ofNat 32 n - 1#32)).toNat = min (i 0).val (n - 1) := by
  have hi : (i 0).val < 448 := (i 0).isLt
  have h1 := hF.lo
  have h2 := hF.hi
  have e : BitVec.ofNat 32 n - 1#32 = BitVec.ofNat 32 (n - 1) := by
    apply BitVec.eq_of_toNat_eq; simp only [BitVec.toNat_sub, BitVec.toNat_ofNat]; omega
  have a : ∀ k : ℕ, k < 448 → (BitVec.ofNat 32 k).toInt = (k : ℤ) := fun k hk => by
    rw [BitVec.toInt_eq_toNat_cond, BitVec.toNat_ofNat, Nat.mod_eq_of_lt (by omega), if_pos (by omega)]
  have b : ∀ k : ℕ, k < 448 → (BitVec.ofNat 32 k).toNat = k := fun k hk => by rw [BitVec.toNat_ofNat]; omega
  rw [e, IntOp.minsi]
  unfold BitVec.slt
  rw [a _ hi, a _ (by omega)]
  by_cases h : (i 0).val < n - 1
  · rw [if_pos (by simpa using h), b _ hi]; omega
  · rw [if_neg (by simpa using h), b _ (by omega)]; omega

theorem index_0 : cc0_transform_0 inb_S1_S1_0 numel1_S1 pf i = ![min (i 0).val (n - 1), 0] := by
  have h : cc0_transform_0 inb_S1_S1_0 numel1_S1 pf i
      = ![(IntOp.minsi (BitVec.ofNat 32 (i 0).val) (BitVec.sub (pf 2 ((Rect.unit (s := S1) ![0] S1.size inb_S1_S1_0).point numel1_S1)) 1#32)).toNat, 0] := rfl
  exact h.trans (congrArg (fun k => ![k, 0]) ((congrArg (fun w => (IntOp.minsi (BitVec.ofNat 32 (i 0).val) (w - 1#32)).toNat) (hF.count _)).trans (min_val i hF)))

theorem index_4 : cc0_transform_4 inb_S1_S1_0 numel1_S1 pf i = ![min (i 0).val (n - 1), 0] := index_0 i hF

omit hF in
theorem index_1 : cc0_transform_1 k0_off1_inb numel1_S1 pf i = ![(pf 0 (ix1 (i 0)) : BitVec 32).toNat, 0, 0] := by
  have h : cc0_transform_1 k0_off1_inb numel1_S1 pf i
      = ![(pf 0 ((Rect.unit (s := S448) (k0_off1 i) S1.size (k0_off1_inb i)).point numel1_S1) : BitVec 32).toNat, 0, 0] := rfl
  exact h.trans (congrArg (fun j => ![(pf 0 j : BitVec 32).toNat, 0, 0]) (point_eq i _ _))

end

/-- A block of 2048 whole rows is whole words. -/
theorem rows_block (ix : Fin 2 → ℕ) (k : ℕ) (hk : k < 448) (e : ix = ![k, 0]) :
    ∃ h : (∀ a, (ix a + 1) * S2048x1024.size a ≤ S917504x1024.size a),
      EltTy.bits .bf16 = 32 ∨ (Rect.block (s := S917504x1024) S2048x1024.size ix h).WholeWords (EltTy.packing .bf16) := by
  subst e
  refine ⟨fun a => ?_, .inr (.inl (.inr ⟨by decide, rfl, .inl ⟨?_, ?_⟩⟩))⟩
  · match a with
    | ⟨0, _⟩ => show (k + 1) * 2048 ≤ 917504; omega
    | ⟨1, _⟩ => show (0 + 1) * 1024 ≤ 1024; omega
  · show 2 ∣ k * 2048; omega
  · show 2 ∣ 2048; decide

/-- Such tables meet the pipeline's side condition. -/
theorem ok_of {pf : pre0.Contents (Elt F)} {n : ℕ} (hF : First (pf 0) (pf 1) (pf 2) n) : ok0 (F := F) pf := by
  have hr : ∀ i : grid0.Coords, min (i 0).val (n - 1) < 448 := fun i => lt_of_le_of_lt (min_le_left _ _) (i 0).isLt
  refine ⟨fun i => rows_block _ _ (hr i) (index_0 i hF), fun i => ⟨fun a => ?_, .inl rfl⟩, fun i => ⟨fun a => ?_, .inl rfl⟩,
    fun i => ⟨fun a => ?_, .inl rfl⟩, fun i => rows_block _ _ (hr i) (index_4 i hF)⟩
  · have he := hF.expert (i 0)
    rw [index_1]
    match a with
    | ⟨0, _⟩ => show ((pf 0 (ix1 (i 0)) : BitVec 32).toNat + 1) * 1 ≤ 64; omega
    | ⟨1, _⟩ => show (0 + 1) * 1024 ≤ 1024; omega
    | ⟨2, _⟩ => show (0 + 1) * 256 ≤ 256; omega
  · have he := hF.expert (i 0)
    rw [show cc0_transform_2 k0_off1_inb numel1_S1 pf i = _ from index_1 i]
    match a with
    | ⟨0, _⟩ => show ((pf 0 (ix1 (i 0)) : BitVec 32).toNat + 1) * 1 ≤ 64; omega
    | ⟨1, _⟩ => show (0 + 1) * 1024 ≤ 1024; omega
    | ⟨2, _⟩ => show (0 + 1) * 256 ≤ 256; omega
  · have he := hF.expert (i 0)
    rw [show cc0_transform_3 k0_off1_inb numel1_S1 pf i = _ from index_1 i]
    match a with
    | ⟨0, _⟩ => show ((pf 0 (ix1 (i 0)) : BitVec 32).toNat + 1) * 1 ≤ 64; omega
    | ⟨1, _⟩ => show (0 + 1) * 256 ≤ 256; omega
    | ⟨2, _⟩ => show (0 + 1) * 1024 ≤ 1024; omega

/-- The grid has one axis: a point's coordinate is the point. -/
theorem coord (t : Fin grid0.N) : (grid0.coords t 0).val = t.val := by
  have h : (grid0.coords t 0).val = t.val / 1 % 448 := Pipeline.Grid.coords_val (G := grid0) t 0 (by decide) rfl
  have := (show t.val < 448 from t.isLt)
  omega

section

variable (m : (ℓ : Loc nD τ sig) → Buf (Elt F) ℓ) (hO : Ok m)

/-- The number of the block each window is on, per axis. -/
abbrev at0 (t : Fin (cfgM m hO).N) : Fin 2 → ℕ := ((cfgM m hO).win 0).index t
abbrev at1 (t : Fin (cfgM m hO).N) : Fin 3 → ℕ := ((cfgM m hO).win 1).index t
abbrev at2 (t : Fin (cfgM m hO).N) : Fin 3 → ℕ := ((cfgM m hO).win 2).index t
abbrev at3 (t : Fin (cfgM m hO).N) : Fin 3 → ℕ := ((cfgM m hO).win 3).index t
abbrev at4 (t : Fin (cfgM m hO).N) : Fin 2 → ℕ := ((cfgM m hO).win 4).index t

/-- The rows' windows are on the point's used block. -/
theorem win_0 {n : ℕ} (hF : First (tbl m 0) (tbl m 1) (tbl m 2) n) (t : Fin (cfgM m hO).N) : at0 m hO t = ![min t.val (n - 1), 0] :=
  (index_0 (grid0.coords t) hF).trans (by rw [coord])

theorem win_4 {n : ℕ} (hF : First (tbl m 0) (tbl m 1) (tbl m 2) n) (t : Fin (cfgM m hO).N) : at4 m hO t = ![min t.val (n - 1), 0] :=
  (index_4 (grid0.coords t) hF).trans (by rw [coord])

/-- The expert of a point's block. -/
abbrev expertAt (t : Fin grid0.N) : ℕ := (tbl m 0 (ix1 (grid0.coords t 0)) : BitVec 32).toNat

/-- The weights' windows are on the expert. -/
theorem win_1 (t : Fin (cfgM m hO).N) : at1 m hO t = ![expertAt m t, 0, 0] := index_1 (grid0.coords t)
theorem win_2 (t : Fin (cfgM m hO).N) : at2 m hO t = ![expertAt m t, 0, 0] := index_1 (grid0.coords t)
theorem win_3 (t : Fin (cfgM m hO).N) : at3 m hO t = ![expertAt m t, 0, 0] := index_1 (grid0.coords t)

end

/-- Such tables' used blocks come first. -/
theorem used_of (m : (ℓ : Loc nD τ sig) → Buf (Elt F) ℓ) (hO : Ok m) {n : ℕ} (hF : First (tbl m 0) (tbl m 1) (tbl m 2) n) : Used m hO n := by
  refine ⟨hF.lo, fun t => ?_, fun t => ?_, fun t t' e ht => ?_⟩
  · refine (cond_iff _).trans ?_
    refine (iff_of_eq (congrArg (fun w : BitVec 32 => 0 < w.toInt) (word_eq (grid0.coords t) 0 (tbl m 1)))).trans ?_
    exact (hF.rows _).trans (by rw [coord])
  · have e : (cfgM m hO).idle 4 (grid0.coords t) = !(k0_cond1 ((tbl m).atD 1 (k0_off1 (grid0.coords t))) == 1#1) := rfl
    rw [e, Bool.not_eq_true', beq_eq_false_iff_ne, ne_eq]
    refine (not_congr (cond_iff _)).trans ?_
    refine (not_congr (iff_of_eq (congrArg (fun w : BitVec 32 => 0 < w.toInt) (atD_eq (grid0.coords t) (tbl m))))).trans ?_
    exact (not_congr ((hF.rows _).trans (by rw [coord]))).trans not_lt
  · exact (win_4 m hO hF t).trans ((congrArg (fun k => ![k, 0]) (show min t.val (n - 1) = min t'.val (n - 1) by have := hF.lo; omega)).trans
      (win_4 m hO hF t').symm)

/-- The tables as the region finds them are the arguments. -/
theorem tbl_arg (m : (ℓ : Loc nD τ sig) → Buf (Elt F) ℓ) :
    tbl m 0 = m (((0 : Dev nD).tc : Thread nD τ).loc main_arg0) ∧ tbl m 1 = m (((0 : Dev nD).tc : Thread nD τ).loc main_arg1)
      ∧ tbl m 2 = m (((0 : Dev nD).tc : Thread nD τ).loc main_arg2) :=
  ⟨V_arg m 0 main_arg0 (by decide) (by decide) (by decide), V_arg m 0 main_arg1 (by decide) (by decide) (by decide),
    V_arg m 0 main_arg2 (by decide) (by decide) (by decide)⟩

end Cert.Kernel2Ideal.Experts

end
-- ==== Proof.ExpertsPay.lean ====
/- The experts' products, one block: each entry of the block the body stores, as sums of the block's rows and weights. -/
module

public import proofs.«01_k».proof.Proof.Gen.Kernel2Ideal.Skeleton
public import Idealize.ShloMosaic.Lib.Pointwise
public import Idealize.ShloMosaic.Lib.Tactic
public import proofs.«01_k».proof.Proof.ExpertsTables

@[expose] public section

set_option maxRecDepth 16384

noncomputable section

namespace Cert.Kernel2Ideal.Experts

open Idealize.ShloMosaic Idealize.ShloMosaic.TcCoe
open Cert.Kernel2Ideal Cert.Kernel2Ideal.Gen

/-- An entry of the block the body stores. -/
theorem pay_apply (w : BitVec 32) (x : Vec Ideal S2048x1024 .bf16) (g u : Vec Ideal S1x1024x256 .f32) (d : Vec Ideal S1x256x1024 .f32)
    (r : Fin 2048) (j : Fin 1024) : k0_pay1 w x g u d (ix2 r j)
    = Cert.Experts.entry (IntOp.cmpi .slt (BitVec.ofNat 32 r.val) w) (fun k => x (ix2 r k)) (fun k h => g (ix3 0 k h)) (fun k h => u (ix3 0 k h))
        (fun h => d (ix3 0 h j)) := by
  pointwise [k0_pay1]
  rfl

end Cert.Kernel2Ideal.Experts

end
-- ==== Proof.ExpertsValue.lean ====
/- The experts' products, the result: what the output array holds on the rows of the used blocks, from the arguments. -/
module

public import proofs.«01_k».proof.Proof.ExpertsUsed
public import proofs.«01_k».proof.Proof.ExpertsPay
public import Idealize.ShloMosaic.Lib.Pipeline.Value
public import Idealize.ShloMosaic.Lib.Pipeline.Covers
public import Idealize.ShloMosaic.Lib.StableHlo.Run

@[expose] public section

set_option maxRecDepth 16384

noncomputable section

namespace Cert.Kernel2Ideal.Experts

open Idealize.ShloMosaic Idealize.ShloMosaic.TcCoe
open Cert.Kernel2Ideal Cert.Kernel2Ideal.Gen Cert.Experts

variable (m : (ℓ : Loc nD τ sig) → Buf (Elt Ideal) ℓ) (c : Dev nD)

/-! ## The weights as the launch reshapes them -/

theorem V_gate (e : Fin 64) (k : Fin 1024) (h : Fin 256) : V m c main_v0 (ix3 e k h) = m ((c : Thread nD τ).loc main_arg4) (ix4 0 e k h) := by
  unfold_abbrev_sides
  after_results
  pointwise []

theorem V_up (e : Fin 64) (k : Fin 1024) (h : Fin 256) : V m c main_v1 (ix3 e k h) = m ((c : Thread nD τ).loc main_arg5) (ix4 0 e k h) := by
  unfold_abbrev_sides
  after_results
  pointwise []

theorem V_down (e : Fin 64) (h : Fin 256) (j : Fin 1024) : V m c main_v2 (ix3 e h j) = m ((c : Thread nD τ).loc main_arg6) (ix4 0 e h j) := by
  unfold_abbrev_sides
  after_results
  pointwise []

/-! ## The blocks of a used point -/

section

variable {m} {hO : Ok m} {n : ℕ} (hF : First (tbl m 0) (tbl m 1) (tbl m 2) n) (t : Fin (cfgM m hO).N) (b : Fin 448) (hb : t.val = b.val)

/-- A point's coordinate is its block. -/
theorem coord_eq (hb : t.val = b.val) : grid0.coords t 0 = b := Fin.ext ((coord t).trans hb)

include hF

theorem emb_0 (hm : min t.val (n - 1) = b.val) (r : Fin 2048) (k : Fin 1024) :
    ((((cfgM m hO).win 0).blk t).view.emb (ix2 r k) : (⟨2, ![917504, 1024]⟩ : Shape).Idx) = ix2 (row b r) k := by
  funext a
  match a with
  | ⟨0, _⟩ =>
    have e0 : at0 m hO t 0 = min t.val (n - 1) := congrFun (win_0 m hO hF t) 0
    exact Fin.ext (show at0 m hO t 0 * 2048 + 1 * r.val = b.val * 2048 + r.val by omega)
  | ⟨1, _⟩ =>
    have e1 : at0 m hO t 1 = 0 := congrFun (win_0 m hO hF t) 1
    exact Fin.ext (show at0 m hO t 1 * 1024 + 1 * k.val = k.val by omega)

theorem emb_4 (hm : min t.val (n - 1) = b.val) (r : Fin 2048) (j : Fin 1024) :
    ((((cfgM m hO).win 4).blk t).view.emb (ix2 r j) : (⟨2, ![917504, 1024]⟩ : Shape).Idx) = ix2 (row b r) j := by
  funext a
  match a with
  | ⟨0, _⟩ =>
    have e0 : at4 m hO t 0 = min t.val (n - 1) := congrFun (win_4 m hO hF t) 0
    exact Fin.ext (show at4 m hO t 0 * 2048 + 1 * r.val = b.val * 2048 + r.val by omega)
  | ⟨1, _⟩ =>
    have e1 : at4 m hO t 1 = 0 := congrFun (win_4 m hO hF t) 1
    exact Fin.ext (show at4 m hO t 1 * 1024 + 1 * j.val = j.val by omega)

include hb

theorem rows_block_apply (hn : b.val < n) (r : Fin 2048) (k : Fin 1024) :
    iblk m hO c 0 t (ix2 r k) = m ((c : Thread nD τ).loc main_arg3) (ix2 (row b r) k) :=
  (congrArg (V m c main_arg3) (emb_0 hF t b (by omega) r k)).trans (congrFun (V_arg m c main_arg3 (by decide) (by decide) (by decide)) _)

theorem emb_1 (k : Fin 1024) (h : Fin 256) : ((((cfgM m hO).win 1).blk t).view.emb (ix3 0 k h) : (⟨3, ![64, 1024, 256]⟩ : Shape).Idx)
    = ix3 ⟨(tbl m 0 (ix1 b) : BitVec 32).toNat, hF.expert b⟩ k h := by
  funext a
  match a with
  | ⟨0, _⟩ =>
    have e0 : at1 m hO t 0 = (tbl m 0 (ix1 b) : BitVec 32).toNat := (congrFun (win_1 m hO t) 0).trans (by rw [← coord_eq t b hb]; rfl)
    exact Fin.ext (show at1 m hO t 0 * 1 + 1 * 0 = (tbl m 0 (ix1 b) : BitVec 32).toNat by omega)
  | ⟨1, _⟩ =>
    have e1 : at1 m hO t 1 = 0 := congrFun (win_1 m hO t) 1
    exact Fin.ext (show at1 m hO t 1 * 1024 + 1 * k.val = k.val by omega)
  | ⟨2, _⟩ =>
    have e2 : at1 m hO t 2 = 0 := congrFun (win_1 m hO t) 2
    exact Fin.ext (show at1 m hO t 2 * 256 + 1 * h.val = h.val by omega)

theorem gate_block_apply (k : Fin 1024) (h : Fin 256) :
    iblk m hO c 1 t (ix3 0 k h) = m ((c : Thread nD τ).loc main_arg4) (ix4 0 ⟨(tbl m 0 (ix1 b) : BitVec 32).toNat, hF.expert b⟩ k h) :=
  (congrArg (V m c main_v0) (emb_1 hF t b hb k h)).trans (V_gate m c _ k h)

theorem emb_2 (k : Fin 1024) (h : Fin 256) : ((((cfgM m hO).win 2).blk t).view.emb (ix3 0 k h) : (⟨3, ![64, 1024, 256]⟩ : Shape).Idx)
    = ix3 ⟨(tbl m 0 (ix1 b) : BitVec 32).toNat, hF.expert b⟩ k h := by
  funext a
  match a with
  | ⟨0, _⟩ =>
    have e0 : at2 m hO t 0 = (tbl m 0 (ix1 b) : BitVec 32).toNat := (congrFun (win_2 m hO t) 0).trans (by rw [← coord_eq t b hb]; rfl)
    exact Fin.ext (show at2 m hO t 0 * 1 + 1 * 0 = (tbl m 0 (ix1 b) : BitVec 32).toNat by omega)
  | ⟨1, _⟩ =>
    have e1 : at2 m hO t 1 = 0 := congrFun (win_2 m hO t) 1
    exact Fin.ext (show at2 m hO t 1 * 1024 + 1 * k.val = k.val by omega)
  | ⟨2, _⟩ =>
    have e2 : at2 m hO t 2 = 0 := congrFun (win_2 m hO t) 2
    exact Fin.ext (show at2 m hO t 2 * 256 + 1 * h.val = h.val by omega)

theorem up_block_apply (k : Fin 1024) (h : Fin 256) :
    iblk m hO c 2 t (ix3 0 k h) = m ((c : Thread nD τ).loc main_arg5) (ix4 0 ⟨(tbl m 0 (ix1 b) : BitVec 32).toNat, hF.expert b⟩ k h) :=
  (congrArg (V m c main_v1) (emb_2 hF t b hb k h)).trans (V_up m c _ k h)

theorem emb_3 (h : Fin 256) (j : Fin 1024) : ((((cfgM m hO).win 3).blk t).view.emb (ix3 0 h j) : (⟨3, ![64, 256, 1024]⟩ : Shape).Idx)
    = ix3 ⟨(tbl m 0 (ix1 b) : BitVec 32).toNat, hF.expert b⟩ h j := by
  funext a
  match a with
  | ⟨0, _⟩ =>
    have e0 : at3 m hO t 0 = (tbl m 0 (ix1 b) : BitVec 32).toNat := (congrFun (win_3 m hO t) 0).trans (by rw [← coord_eq t b hb]; rfl)
    exact Fin.ext (show at3 m hO t 0 * 1 + 1 * 0 = (tbl m 0 (ix1 b) : BitVec 32).toNat by omega)
  | ⟨1, _⟩ =>
    have e1 : at3 m hO t 1 = 0 := congrFun (win_3 m hO t) 1
    exact Fin.ext (show at3 m hO t 1 * 256 + 1 * h.val = h.val by omega)
  | ⟨2, _⟩ =>
    have e2 : at3 m hO t 2 = 0 := congrFun (win_3 m hO t) 2
    exact Fin.ext (show at3 m hO t 2 * 1024 + 1 * j.val = j.val by omega)

theorem down_block_apply (h : Fin 256) (j : Fin 1024) :
    iblk m hO c 3 t (ix3 0 h j) = m ((c : Thread nD τ).loc main_arg6) (ix4 0 ⟨(tbl m 0 (ix1 b) : BitVec 32).toNat, hF.expert b⟩ h j) :=
  (congrArg (V m c main_v2) (emb_3 hF t b hb h j)).trans (V_down m c _ h j)

omit hb

/-- What a used block's point stores. -/
theorem outs_apply (hb : t.val = b.val) (hn : b.val < n) (r : Fin 2048) (j : Fin 1024) :
    outs m hO n c t (ix2 r j) = entry (IntOp.cmpi .slt (BitVec.ofNat 32 r.val) (tbl m 1 (ix1 b)))
      (fun k => m ((c : Thread nD τ).loc main_arg3) (ix2 (row b r) k))
      (fun k h => m ((c : Thread nD τ).loc main_arg4) (ix4 0 ⟨(tbl m 0 (ix1 b) : BitVec 32).toNat, hF.expert b⟩ k h))
      (fun k h => m ((c : Thread nD τ).loc main_arg5) (ix4 0 ⟨(tbl m 0 (ix1 b) : BitVec 32).toNat, hF.expert b⟩ k h))
      (fun h => m ((c : Thread nD τ).loc main_arg6) (ix4 0 ⟨(tbl m 0 (ix1 b) : BitVec 32).toNat, hF.expert b⟩ h j)) := by
  have ht : last m hO n t = t := Fin.ext (by unfold last; simp only []; omega)
  unfold outs
  rw [ht]
  refine (pay_apply _ _ _ _ _ r j).trans ?_
  have ew : word 0 (tbl m 1) (grid0.coords t) = tbl m 1 (ix1 b) := (word_eq (grid0.coords t) 0 (tbl m 1)).trans (by rw [coord_eq t b hb])
  rw [ew]
  congr 1
  · exact funext fun k => rows_block_apply c hF t b hb hn r k
  · exact funext fun k => funext fun h => gate_block_apply c hF t b hb k h
  · exact funext fun k => funext fun h => up_block_apply c hF t b hb k h
  · exact funext fun h => down_block_apply c hF t b hb h j

end

/-! ## The output array -/

variable {m} {hO : Ok m} {n : ℕ}

/-- What two points on one used block store is one block. -/
theorem outs_congr (t t' : Fin (cfgM m hO).N) (h : last m hO n t = last m hO n t') : outs m hO n c t = outs m hO n c t' := by
  unfold outs; rw [h]

/-- A block's point. -/
abbrev pt (b : ℕ) (h : b < 448) : Fin (cfgM m hO).N := ⟨b, h⟩

/-- The rows of every block as its point leaves them. -/
def rowsOf (m : (ℓ : Loc nD τ sig) → Buf (Elt Ideal) ℓ) (hO : Ok m) (n : ℕ) (c : Dev nD) : (⟨2, ![917504, 1024]⟩ : Shape).Idx → Elt Ideal .bf16 := fun i =>
  outs m hO n c (pt ((i 0).val / 2048) (by have h : (i 0).val < 917504 := (i 0).isLt; omega)) (ix2 ⟨(i 0).val % 2048, Nat.mod_lt _ (by decide)⟩ (i 1))

variable (hF : First (tbl m 0) (tbl m 1) (tbl m 2) n) (t : Fin (cfgM m hO).N) (b : Fin 448)

include hF

/-- The rows of a block, at any point on it. -/
theorem rowsOf_apply (hm : min t.val (n - 1) = b.val) (r : Fin 2048) (j : Fin 1024) : rowsOf m hO n c (ix2 (row b r) j) = outs m hO n c t (ix2 r j) := by
  have h1 := hF.lo
  have er : (⟨(b.val * 2048 + r.val) % 2048, Nat.mod_lt _ (by decide)⟩ : Fin 2048) = r := Fin.ext (by simp only []; omega)
  have et : last m hO n (pt ((b.val * 2048 + r.val) / 2048) (by omega)) = last m hO n t := Fin.ext (by
    show min ((b.val * 2048 + r.val) / 2048) (n - 1) = min t.val (n - 1); omega)
  exact (congrFun (outs_congr c _ t et) (ix2 ⟨(b.val * 2048 + r.val) % 2048, Nat.mod_lt _ (by decide)⟩ j)).trans
    (congrArg (fun r' => outs m hO n c t (ix2 r' j)) er)

/-- What a point writes back is its part of the rows. -/
theorem flushed_eq : (dats m hO n 0 c).flushed 4 t = (((cfgM m hO).win 4).blk t).view.read (Elt Ideal) (rowsOf m hO n c) := by
  have h2 := hF.hi
  have hN : t.val < 448 := t.isLt
  have key : ∀ y : (⟨2, ![2048, 1024]⟩ : Shape).Idx, outs m hO n c t y = rowsOf m hO n c ((((cfgM m hO).win 4).blk t).view.emb y) := fun y => by
    obtain ⟨r, j, rfl⟩ : ∃ (r : Fin 2048) (j : Fin 1024), y = ix2 r j := ⟨y 0, y 1, by funext a; match a with | ⟨0, _⟩ => rfl | ⟨1, _⟩ => rfl⟩
    exact ((congrArg (rowsOf m hO n c) (emb_4 hF t ⟨min t.val (n - 1), by omega⟩ rfl r j)).trans (rowsOf_apply c hF t _ rfl r j)).symm
  exact funext key

/-- The output array on the rows of a used block. -/
theorem arr_apply (hn : b.val < n) (r : Fin 2048) (j : Fin 1024) :
    (dats m hO n 0 c).arrAt 4 (cfgM m hO).N (ix2 (row b r) j) = outs m hO n c (pt b.val b.isLt) (ix2 r j) := by
  have h1 := hF.lo
  obtain ⟨t, hle, hf, hi⟩ := ((cfgM m hO).win 4).exists_flush_same_index rfl (pt b.val b.isLt)
  have hm : min t.val (n - 1) = b.val := by
    have h : min t.val (n - 1) = min b.val (n - 1) :=
      congrFun ((win_4 m hO hF t).symm.trans (hi.trans (win_4 m hO hF (pt b.val b.isLt)))) 0
    omega
  have key := (dats m hO n 0 c).arrAt_apply_of_mem 4 (rowsOf m hO n c) (fun t _ => flushed_eq c hF t) (cfgM m hO).N t (ix2 (row b r) j) t.isLt hf
    (by rw [← emb_4 hF t b hm r j]; exact View.emb_mem_set _ _)
  exact key.trans ((rowsOf_apply c hF (pt b.val b.isLt) b (by show min b.val (n - 1) = b.val; omega) r j))

end Cert.Kernel2Ideal.Experts

end
-- ==== Proof.ExpertsRef.lean ====
/- The experts' products, the reference: each entry of its result as sums of the row and the expert's weights. -/
module

public import proofs.«01_k».proof.Proof.Gen.Reference2Ideal.Read
public import proofs.«01_k».proof.Proof.ExpertsTables
public import Idealize.ShloMosaic.Lib.Pointwise
public import Idealize.ShloMosaic.Lib.Tactic

@[expose] public section

set_option maxRecDepth 16384

noncomputable section

namespace Cert.Reference2Ideal.Experts

open Idealize.ShloMosaic Idealize.ShloMosaic.TcCoe
open Cert.Reference2Ideal Cert.Reference2Ideal.Gen Cert.Reference2Ideal.Read Cert.Experts

/-! ## One slab per block -/

section

variable {α : Type} {E A B N : ℕ}

/-- The dimension numbers of taking slabs of `[E, A, B]` at start indices `[N, 1]`. -/
abbrev slabs (wf : GatherDims.WF ⟨3, ![E, A, B]⟩ ⟨2, ![N, 1]⟩ ⟨3, ![N, A, B]⟩ [1, 2] [0] [] [0] [] 1 ![1, A, B]) :
    GatherDims ⟨3, ![E, A, B]⟩ ⟨2, ![N, 1]⟩ ⟨3, ![N, A, B]⟩ where
  offsetDims := [1, 2]
  collapsedSliceDims := [0]
  operandBatchingDims := []
  startIndicesBatchingDims := []
  startIndexMap := [0]
  indexVectorDim := 1
  sliceSizes := ![1, A, B]
  wf := wf

/-- Each block's slab is the one its start index names, the index read signed and kept inside the array. -/
theorem slab_apply (hE : 0 < E) (wf : GatherDims.WF ⟨3, ![E, A, B]⟩ ⟨2, ![N, 1]⟩ ⟨3, ![N, A, B]⟩ [1, 2] [0] [] [0] [] 1 ![1, A, B])
    (x : (⟨3, ![E, A, B]⟩ : Shape).Idx → α) (idx : IVec ⟨2, ![N, 1]⟩ 32) (n : Fin N) (a : Fin A) (b : Fin B) :
    Host.gather (slabs wf) x idx (ix3 n a b) = x (ix3 ⟨min (idx (ix2 n 0)).toInt.toNat (E - 1), by omega⟩ a b) := by
  unfold Host.gather
  congr 1
  funext q
  refine Fin.ext ?_
  show (slabs wf).start (ix3 n a b) idx q + (slabs wf).batchCoord (ix3 n a b) q + (slabs wf).offCoord (ix3 n a b) q = _
  rw [GatherDims.batchCoord_eq_zero _ _ _ List.not_mem_nil]
  have hq : q = 0 ∨ q = 1 ∨ q = 2 := by
    match q with
    | ⟨0, _⟩ => exact .inl rfl
    | ⟨1, _⟩ => exact .inr (.inl rfl)
    | ⟨2, _⟩ => exact .inr (.inr rfl)
  rcases hq with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabs wf).startIndexMap from List.mem_singleton.mpr rfl)]
    have hsi : (slabs wf).siIdx (ix3 n a b) ⟨List.idxOf (0 : Fin 3) (slabs wf).startIndexMap,
        List.idxOf_lt_length_iff.2 (List.mem_singleton.mpr rfl)⟩ = ix2 n 0 := by
      funext p; refine Fin.ext ?_
      match p with
      | ⟨0, _⟩ => rfl
      | ⟨1, _⟩ => rfl
    rw [hsi]
    rfl
  · unfold GatherDims.start
    rw [dif_neg (show (1 : Fin 3) ∉ (slabs wf).startIndexMap by simp)]
    simp only [Nat.zero_add]
    rfl
  · unfold GatherDims.start
    rw [dif_neg (show (2 : Fin 3) ∉ (slabs wf).startIndexMap by simp)]
    simp only [Nat.zero_add]
    rfl

end

/-! ## The reference's stages -/

variable (x0 x1 : IVec S448 32) (x3 : FVec Ideal S917504x1024 .bf16) (x4 x5 : FVec Ideal S1x64x1024x256 .f32) (x6 : FVec Ideal S1x64x256x1024 .f32)

/-- The rows, those past their block's count zeroed. -/
theorem rows_apply (b : Fin 448) (r : Fin 2048) (k : Fin 1024) :
    val_main_v8 (F := Ideal) x1 x3 (ix3 b r k)
      = Scalar.select (IntOp.cmpi .slt (BitVec.ofNat 32 r.val) (x1 (ix1 b))) (x3 (ix2 (row b r) k)) 0 := by
  pointwise [val_main_v8, val_main_call0_v1, val_main_v7, val_main_v5, val_main_v3, val_main_v2, val_main_v6, val_main_v4, val_main_v1,
    val_main_v0, val_main_call0_v2, val_main_call0_v0, val_main_cst]
  have hz : Ideal.ofBits .f32 0x00000000#32 = 0 := by simp [Ideal.ofBits, Ideal.ieee]
  exact congrArg (Scalar.select _ _) hz

section

variable {n : ℕ} {nb : IVec S1 32} (hF : First x0 x1 nb n) (b : Fin 448)

include hF

/-- An expert's number is not negative, so it is not wrapped. -/
theorem wrap_apply (y : BitVec 32) : Scalar.select (IntOp.cmpi .slt (x0 (ix1 b)) 0#32) y (x0 (ix1 b)) = x0 (ix1 b) := by
  have h := hF.expert b
  have hi : (x0 (ix1 b)).toInt = ((x0 (ix1 b)).toNat : ℤ) := by rw [BitVec.toInt_eq_toNat_cond, if_pos (by omega)]
  have e : IntOp.cmpi .slt (x0 (ix1 b)) 0#32 = 0#1 := by
    have hz : (0#32).toInt = 0 := by decide
    have h0 : IntOp.cmpi .slt (x0 (ix1 b)) 0#32 = BitVec.ofBool (decide ((x0 (ix1 b)).toInt < (0#32).toInt)) := rfl
    rw [h0, hz, hi, decide_eq_false (by omega)]; rfl
  rw [e]; rfl

/-- The block's expert read signed and kept inside the array is the expert. -/
theorem clamp (y : BitVec 32) (e : y = x0 (ix1 b)) (p : min y.toInt.toNat (64 - 1) < 64) :
    (⟨min y.toInt.toNat (64 - 1), p⟩ : Fin 64) = ⟨(x0 (ix1 b)).toNat, hF.expert b⟩ := by
  subst e
  have h := hF.expert b
  have hi : (x0 (ix1 b)).toInt = ((x0 (ix1 b)).toNat : ℤ) := by rw [BitVec.toInt_eq_toNat_cond, if_pos (by omega)]
  exact Fin.ext (by simp only [hi, Int.toNat_natCast]; omega)

/-- The gate weight of a block's expert. -/
theorem gate_apply (k : Fin 1024) (h : Fin 256) :
    val_main_v16 (F := Ideal) x0 x4 (ix3 b k h) = x4 (ix4 0 ⟨(x0 (ix1 b)).toNat, hF.expert b⟩ k h) := by
  have e : val_main_v15 (F := Ideal) x0 (ix2 b 0) = x0 (ix1 b) := by
    pointwise [val_main_v15, val_main_v14, val_main_v11, val_main_v10, val_main_c]
    exact wrap_apply x0 x1 hF b _
  unfold val_main_v16
  refine (slab_apply (by decide) _ _ _ b k h).trans ?_
  rw [clamp x0 x1 hF b _ e]
  pointwise [val_main_v9]

/-- The other weight the row is multiplied by. -/
theorem up_apply (k : Fin 1024) (h : Fin 256) :
    val_main_v24 (F := Ideal) x0 x5 (ix3 b k h) = x5 (ix4 0 ⟨(x0 (ix1 b)).toNat, hF.expert b⟩ k h) := by
  have e : val_main_v23 (F := Ideal) x0 (ix2 b 0) = x0 (ix1 b) := by
    pointwise [val_main_v23, val_main_v22, val_main_v19, val_main_v18, val_main_c_1]
    exact wrap_apply x0 x1 hF b _
  unfold val_main_v24
  refine (slab_apply (by decide) _ _ _ b k h).trans ?_
  rw [clamp x0 x1 hF b _ e]
  pointwise [val_main_v17]

/-- The weight of the second product. -/
theorem down_apply (h : Fin 256) (j : Fin 1024) :
    val_main_v32 (F := Ideal) x0 x6 (ix3 b h j) = x6 (ix4 0 ⟨(x0 (ix1 b)).toNat, hF.expert b⟩ h j) := by
  have e : val_main_v31 (F := Ideal) x0 (ix2 b 0) = x0 (ix1 b) := by
    pointwise [val_main_v31, val_main_v30, val_main_v27, val_main_v26, val_main_c_3]
    exact wrap_apply x0 x1 hF b _
  unfold val_main_v32
  refine (slab_apply (by decide) _ _ _ b h j).trans ?_
  rw [clamp x0 x1 hF b _ e]
  pointwise [val_main_v25]

/-- A product with a zeroed row is the zeroed product. -/
theorem select_mul (c : BitVec 1) (x w : EReal) : Scalar.select c x 0 * w = Scalar.select c (x * w) 0 := by
  obtain rfl | rfl : c = 1#1 ∨ c = 0#1 := by revert c; decide
  · rfl
  · exact zero_mul w

/-- The row's products with a column of the gate weight. -/
theorem gated (r : Fin 2048) (h : Fin 256) :
    val_main_v33 (F := Ideal) x0 x1 x3 x4 (ix3 b r h)
      = dotted (IntOp.cmpi .slt (BitVec.ofNat 32 r.val) (x1 (ix1 b))) (fun k => x3 (ix2 (row b r) k))
          (fun k => x4 (ix4 0 ⟨(x0 (ix1 b)).toNat, hF.expert b⟩ k h)) := by
  rw [val_main_v33_apply]
  refine Finset.sum_congr rfl fun k _ => ?_
  have el : lidx_main_v33 (ix3 b r h) k = ix3 b r k := by funext a; match a with | ⟨0, _⟩ => rfl | ⟨1, _⟩ => rfl | ⟨2, _⟩ => rfl
  have er : ridx_main_v33 (ix3 b r h) k = ix3 b k h := by funext a; match a with | ⟨0, _⟩ => rfl | ⟨1, _⟩ => rfl | ⟨2, _⟩ => rfl
  rw [el, er, rows_apply, gate_apply x0 x1 x4 hF b k h, select_mul x0 x1 hF]

/-- The row's products with a column of the other. -/
theorem upped (r : Fin 2048) (h : Fin 256) :
    val_main_v35 (F := Ideal) x0 x1 x3 x5 (ix3 b r h)
      = dotted (IntOp.cmpi .slt (BitVec.ofNat 32 r.val) (x1 (ix1 b))) (fun k => x3 (ix2 (row b r) k))
          (fun k => x5 (ix4 0 ⟨(x0 (ix1 b)).toNat, hF.expert b⟩ k h)) := by
  rw [val_main_v35_apply]
  refine Finset.sum_congr rfl fun k _ => ?_
  have el : lidx_main_v35 (ix3 b r h) k = ix3 b r k := by funext a; match a with | ⟨0, _⟩ => rfl | ⟨1, _⟩ => rfl | ⟨2, _⟩ => rfl
  have er : ridx_main_v35 (ix3 b r h) k = ix3 b k h := by funext a; match a with | ⟨0, _⟩ => rfl | ⟨1, _⟩ => rfl | ⟨2, _⟩ => rfl
  rw [el, er, rows_apply, up_apply x0 x1 x5 hF b k h, select_mul x0 x1 hF]

/-- The gated product. -/
theorem hidden (r : Fin 2048) (h : Fin 256) :
    val_main_v36 (F := Ideal) x0 x1 x3 x4 x5 (ix3 b r h)
      = val_main_v33 (F := Ideal) x0 x1 x3 x4 (ix3 b r h) * Ideal.logistic (val_main_v33 (F := Ideal) x0 x1 x3 x4 (ix3 b r h))
        * val_main_v35 (F := Ideal) x0 x1 x3 x5 (ix3 b r h) := by
  pointwise [val_main_v36, val_main_v34, val_main_call1_v5, val_main_call1_v4, val_main_call1_cst_0, val_main_call1_v3, val_main_call1_v2,
    val_main_call1_cst, val_main_call1_v1, val_main_call1_v0]
  rfl

/-- An entry of the reference's result. -/
theorem result (r : Fin 2048) (j : Fin 1024) :
    val_main_v39 (F := Ideal) x0 x1 x3 x4 x5 x6 (ix2 (row b r) j)
      = entry (IntOp.cmpi .slt (BitVec.ofNat 32 r.val) (x1 (ix1 b))) (fun k => x3 (ix2 (row b r) k))
          (fun k h => x4 (ix4 0 ⟨(x0 (ix1 b)).toNat, hF.expert b⟩ k h)) (fun k h => x5 (ix4 0 ⟨(x0 (ix1 b)).toNat, hF.expert b⟩ k h))
          (fun h => x6 (ix4 0 ⟨(x0 (ix1 b)).toNat, hF.expert b⟩ h j)) := by
  have e : (idx_main_v38 (ix2 (row b r) j) : S448x2048x1024.Idx) = ix3 b r j := by
    funext a
    match a with
    | ⟨0, _⟩ => exact Fin.ext (show ((b.val * 2048 + r.val) * 1024 + j.val) / 2097152 = b.val by omega)
    | ⟨1, _⟩ => exact Fin.ext (show ((b.val * 2048 + r.val) * 1024 + j.val) / 1024 % 2048 = r.val by omega)
    | ⟨2, _⟩ => exact Fin.ext (show ((b.val * 2048 + r.val) * 1024 + j.val) % 1024 = j.val by omega)
  rw [val_main_v39_apply, val_main_v38_apply, e, val_main_v37_apply]
  refine (Finset.sum_congr rfl fun h _ => ?_)
  have el : lidx_main_v37 (ix3 b r j) h = ix3 b r h := by funext a; match a with | ⟨0, _⟩ => rfl | ⟨1, _⟩ => rfl | ⟨2, _⟩ => rfl
  have er : ridx_main_v37 (ix3 b r j) h = ix3 b h j := by funext a; match a with | ⟨0, _⟩ => rfl | ⟨1, _⟩ => rfl | ⟨2, _⟩ => rfl
  rw [el, er, hidden x0 x1 x3 x4 x5 hF, gated x0 x1 x3 x4 hF, upped x0 x1 x3 x5 hF, down_apply x0 x1 x6 hF]

end

end Cert.Reference2Ideal.Experts

end
-- ==== Proof.ExpertsEquation.lean ====
/- The experts' products: on tables whose used blocks come first the kernel's result and the reference's agree on the used
   blocks' rows. -/
module

public import proofs.«01_k».proof.Defs
public import proofs.«01_k».proof.Proof.ExpertsValue
public import proofs.«01_k».proof.Proof.ExpertsRef
public import proofs.«01_k».proof.Proof.ExpertsBitsUsed

@[expose] public section

noncomputable section

namespace Cert.Experts

open Idealize.ShloMosaic Idealize.SL.Sem

theorem first_Kernel2 {m : (ℓ : Loc Cert.Kernel2.nD Cert.Kernel2.τ Cert.Kernel2.sig) → Buf (Elt Bits) ℓ} (h : Cert.Pre_Kernel2 m) :
    ∃ n, First (Cert.Kernel2.Experts.tbl m 0) (Cert.Kernel2.Experts.tbl m 1) (Cert.Kernel2.Experts.tbl m 2) n := by
  obtain ⟨e0, e1, e2⟩ := Cert.Kernel2.Experts.tbl_arg m
  rw [e0, e1, e2]
  exact ⟨_, first_of _ _ _ _ _ _ _ (h 0).1 (h 0).2.1 (h 0).2.2⟩

theorem first_Kernel2Ideal {m : (ℓ : Loc Cert.Kernel2Ideal.nD Cert.Kernel2Ideal.τ Cert.Kernel2Ideal.sig) → Buf (Elt Ideal) ℓ}
    (h : Cert.Pre_Kernel2Ideal m) :
    ∃ n, First (Cert.Kernel2Ideal.Experts.tbl m 0) (Cert.Kernel2Ideal.Experts.tbl m 1) (Cert.Kernel2Ideal.Experts.tbl m 2) n := by
  obtain ⟨e0, e1, e2⟩ := Cert.Kernel2Ideal.Experts.tbl_arg m
  rw [e0, e1, e2]
  exact ⟨_, first_of _ _ _ _ _ _ _ (h 0).1 (h 0).2.1 (h 0).2.2⟩

/-- The kernel in floats ends, leaves its arguments unchanged, and holds no semaphore. -/
theorem frame_Kernel2 : Cert.quiescent_Kernel2 := fun m ρ hpre => by
  obtain ⟨n, hF⟩ := first_Kernel2 hpre
  exact (θ_run Cert.Kernel2.defs _ _).mono (fun _ h => ⟨fun c => (h.1 c).2, h.2⟩)
    (Cert.Kernel2.Experts.run m ρ (Cert.Kernel2.Experts.used_of m (Cert.Kernel2.Experts.ok_of hF) hF))

/-- So does the kernel in exact numbers. -/
theorem frame_Kernel2Ideal : Cert.quiescent_Kernel2Ideal := fun m ρ hpre => by
  obtain ⟨n, hF⟩ := first_Kernel2Ideal hpre
  exact (θ_run Cert.Kernel2Ideal.defs _ _).mono (fun _ h => ⟨fun c => (h.1 c).2, h.2⟩)
    (Cert.Kernel2Ideal.Experts.run m ρ (Cert.Kernel2Ideal.Experts.used_of m (Cert.Kernel2Ideal.Experts.ok_of hF) hF))

/-- And the reference. -/
theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- An index of the result is a row of a block and a lane. -/
theorem index_eq (i : (⟨2, ![917504, 1024]⟩ : Shape).Idx) : ∃ (b : Fin 448) (r : Fin 2048) (j : Fin 1024), i = ix2 (row b r) j ∧ (i 0).val / 2048 = b.val := by
  have h : (i 0).val < 917504 := (i 0).isLt
  refine ⟨⟨(i 0).val / 2048, by omega⟩, ⟨(i 0).val % 2048, by omega⟩, i 1, ?_, rfl⟩
  funext a
  match a with
  | ⟨0, _⟩ => exact Fin.ext (show (i 0).val = (i 0).val / 2048 * 2048 + (i 0).val % 2048 by omega)
  | ⟨1, _⟩ => rfl

/-- On the rows of the used blocks the kernel and the reference leave the same result. -/
theorem algebraic : Cert.algebraic_Kernel2Ideal_Reference2Ideal_on_rows_used := by
  intro m ρ m' ρ' hpre hagree
  obtain ⟨n, hF⟩ := first_Kernel2Ideal hpre
  have hU := Cert.Kernel2Ideal.Experts.used_of m (Cert.Kernel2Ideal.Experts.ok_of hF) hF
  refine ⟨fun c => (Cert.Kernel2Ideal.Experts.dats m (Cert.Kernel2Ideal.Experts.ok_of hF) n 0 c).arrAt 4
      (Cert.Kernel2Ideal.Experts.cfgM m (Cert.Kernel2Ideal.Experts.ok_of hF)).N,
    (θ_run Cert.Kernel2Ideal.defs _ _).mono (fun _ h c => ⟨fun i _ => congrFun (h.1 c).1 i, (h.1 c).2⟩) (Cert.Kernel2Ideal.Experts.run m ρ hU), ?_⟩
  refine (θ_run Cert.Reference2Ideal.defs _ _).mono (fun _ h c => ⟨fun i hi => ?_, (h c).2⟩) (Cert.Reference2Ideal.Value.run (F := Ideal) m' ρ')
  obtain ⟨h0, h1, h2, h3, h4, h5, h6⟩ := hagree c
  refine (congrFun ((h c).1.trans (Cert.Reference2Ideal.Read.val_main_v39_eq m' c)) i).trans ?_
  rw [h0, h1, h3, h4, h5, h6]
  obtain rfl : c = 0 := Subsingleton.elim _ _
  obtain ⟨e0, e1, e2⟩ := Cert.Kernel2Ideal.Experts.tbl_arg m
  rw [← e0, ← e1, ← e2] at hi
  have hm := mask_of hF _ _ _ _ i hi
  obtain ⟨b, r, j, hij, hb⟩ := index_eq i
  have hn : b.val < n := by omega
  rw [← e0, ← e1, hij]
  exact (Cert.Reference2Ideal.Experts.result _ _ _ _ _ _ hF b r j).trans
    ((Cert.Kernel2Ideal.Experts.arr_apply 0 hF b hn r j).trans (Cert.Kernel2Ideal.Experts.outs_apply 0 hF _ b rfl hn r j)).symm

end Cert.Experts

end
-- ==== Proof.OutprojRow.lean ====
/- The output projection in plain numbers: one row of the residual stream, its modulated norm, and the router's scores. -/
module

public import Idealize.ShloMosaic.Lib.Pointwise
public import Idealize.ShloMosaic.Lib.Tactic

@[expose] public section

noncomputable section

namespace Cert.Outproj

open Idealize.ShloMosaic

/-- A row times a matrix. -/
def dotted (x : Fin 1024 → EReal) (w : Fin 1024 → Fin 1024 → EReal) (j : Fin 1024) : EReal := ∑ k, x k * w k j

/-- The mean of a row's squares. -/
def meanSquare (o : Fin 1024 → EReal) : EReal := Ideal.div (∑ k, o k * o k) (Ideal.ofBits .f32 0x44800000#32)

/-- A row divided by its root mean square. -/
def rms (o : Fin 1024 → EReal) (j : Fin 1024) : EReal := o j * Ideal.rsqrt (meanSquare o + Ideal.ofBits .f32 0x358637BD#32)

/-- A row of the residual stream after the attention. -/
def stream (mix x gate g : Fin 1024 → EReal) (w : Fin 1024 → Fin 1024 → EReal) (j : Fin 1024) : EReal :=
  x j + gate j * (rms (dotted mix w) j * g j)

/-- Its norm, scaled and shifted. -/
def modulated (y scale shift g : Fin 1024 → EReal) (j : Fin 1024) : EReal :=
  rms y j * g j * (Ideal.ofBits .f32 0x3F800000#32 + scale j) + shift j

/-- The router's score of an expert. -/
def score (h w : Fin 1024 → EReal) : EReal := Ideal.logistic (∑ k, w k * h k)

end Cert.Outproj

end
-- ==== Proof.OutprojRef.lean ====
/- The output projection, the reference: each entry of its results in plain numbers. -/
module

public import proofs.«01_k».proof.Proof.Gen.Reference3Ideal.Read
public import proofs.«01_k».proof.Proof.OutprojRow

@[expose] public section

set_option maxRecDepth 16384

noncomputable section

namespace Cert.Reference3Ideal.Outproj

open Idealize.ShloMosaic Idealize.ShloMosaic.TcCoe
open Cert.Reference3Ideal Cert.Reference3Ideal.Gen Cert.Reference3Ideal.Read Cert.Outproj

variable (x0 : FVec Ideal S32x2048x1024 .bf16) (x1 : FVec Ideal S32x2048x1024 .f32) (x2 : FVec Ideal S32x6x1024 .f32)
  (x3 : FVec Ideal S1x1024x1024 .f32) (x4 x5 : FVec Ideal S1x1024 .f32) (x6 : FVec Ideal S1x1024x64 .f32) (b : Fin 32) (s : Fin 2048)

theorem zero_bits : Ideal.ofBits .f32 0x00000000#32 = 0 := by simp [Ideal.ofBits, Ideal.ieee]

/-- The projection. -/
theorem proj_apply (j : Fin 1024) : val_main_v8 (F := Ideal) x0 x3 (ix3 b s j)
    = dotted (fun k => x0 (ix3 b s k)) (fun k j => x3 (ix3 0 k j)) j := by
  rw [val_main_v8_apply]
  refine Finset.sum_congr rfl fun k _ => ?_
  have el : lidx_main_v8 (ix3 b s j) k = ix3 b s k := by funext a; match a with | ⟨0, _⟩ => rfl | ⟨1, _⟩ => rfl | ⟨2, _⟩ => rfl
  have er : ridx_main_v8 (ix3 b s j) k = ix2 k j := by funext a; match a with | ⟨0, _⟩ => rfl | ⟨1, _⟩ => rfl
  rw [el, er]
  have e0 : val_main_v6 (F := Ideal) x0 (ix3 b s k) = x0 (ix3 b s k) := by pointwise [val_main_v6]
  have e1 : val_main_v7 (F := Ideal) x3 (ix2 k j) = x3 (ix3 0 k j) := by pointwise [val_main_v7]
  rw [e0, e1]

/-- The projection's mean square. -/
theorem mean_apply : val_main_v14 (F := Ideal) x0 x3 (ix3 b s 0) = meanSquare (fun j => val_main_v8 (F := Ideal) x0 x3 (ix3 b s j)) := by
  have e : val_main_v11 (F := Ideal) x0 x3 (ix2 b s) = ∑ j, val_main_v8 (F := Ideal) x0 x3 (ix3 b s j) * val_main_v8 (F := Ideal) x0 x3 (ix3 b s j) := by
    rw [val_main_v11_apply]
    refine (congrArg (· + _) (show val_main_cst (F := Ideal) _ = 0 from zero_bits)).trans ((zero_add _).trans ?_)
    refine Finset.sum_congr rfl fun k _ => ?_
    have ei : idx_main_v11 (ix2 b s) k = ix3 b s k := by funext a; match a with | ⟨0, _⟩ => rfl | ⟨1, _⟩ => rfl | ⟨2, _⟩ => rfl
    rw [ei]
    rfl
  unfold meanSquare
  rw [← e]
  pointwise [val_main_v14, val_main_v12, val_main_v13, val_main_cst_0]

/-- An entry of the residual stream. -/
theorem stream_apply (j : Fin 1024) : val_main_v25 (F := Ideal) x0 x1 x2 x3 x4 (ix3 b s j)
    = stream (fun k => x0 (ix3 b s k)) (fun k => x1 (ix3 b s k)) (fun k => x2 (ix3 b 2 k)) (fun k => x4 (ix2 0 k)) (fun k j => x3 (ix3 0 k j)) j := by
  have ep := funext (proj_apply x0 x3 b s)
  have em := mean_apply x0 x3 b s
  rw [ep] at em
  have ej := proj_apply x0 x3 b s j
  unfold stream rms
  rw [← em, ← ej]
  pointwise [val_main_v25, val_main_v24, val_main_v23, val_main_v22, val_main_v21, val_main_v20, val_main_v19, val_main_v18, val_main_v17,
    val_main_v16, val_main_v15, val_main_v9, val_main_v2, val_main_cst_1]

/-- The stream's mean square. -/
theorem mean2_apply : val_main_v31 (F := Ideal) x0 x1 x2 x3 x4 (ix3 b s 0) = meanSquare (fun j => val_main_v25 (F := Ideal) x0 x1 x2 x3 x4 (ix3 b s j)) := by
  have e : val_main_v28 (F := Ideal) x0 x1 x2 x3 x4 (ix2 b s)
      = ∑ j, val_main_v25 (F := Ideal) x0 x1 x2 x3 x4 (ix3 b s j) * val_main_v25 (F := Ideal) x0 x1 x2 x3 x4 (ix3 b s j) := by
    rw [val_main_v28_apply]
    refine (congrArg (· + _) (show val_main_cst_2 (F := Ideal) _ = 0 from zero_bits)).trans ((zero_add _).trans ?_)
    refine Finset.sum_congr rfl fun k _ => ?_
    have ei : idx_main_v28 (ix2 b s) k = ix3 b s k := by funext a; match a with | ⟨0, _⟩ => rfl | ⟨1, _⟩ => rfl | ⟨2, _⟩ => rfl
    rw [ei]
    rfl
  unfold meanSquare
  rw [← e]
  pointwise [val_main_v31, val_main_v29, val_main_v30, val_main_cst_3]

/-- The modulated input of the feed-forward part, from the stream. -/
theorem mod_apply (j : Fin 1024) : val_main_v45 (F := Ideal) x0 x1 x2 x3 x4 x5 (ix3 b s j)
    = modulated (fun j => val_main_v25 (F := Ideal) x0 x1 x2 x3 x4 (ix3 b s j)) (fun k => x2 (ix3 b 4 k)) (fun k => x2 (ix3 b 3 k))
        (fun k => x5 (ix2 0 k)) j := by
  have em := mean2_apply x0 x1 x2 x3 x4 b s
  unfold modulated rms
  rw [← em]
  pointwise [val_main_v45, val_main_v44, val_main_v43, val_main_v42, val_main_v41, val_main_v40, val_main_v39, val_main_v38, val_main_v37,
    val_main_v36, val_main_v35, val_main_v34, val_main_v33, val_main_v32, val_main_v26, val_main_v3, val_main_v4, val_main_cst_4, val_main_cst_5]

/-- The same in the call's type. -/
theorem cast_apply (j : Fin 1024) : val_main_v55 (F := Ideal) x0 x1 x2 x3 x4 x5 (ix3 b s j) = val_main_v45 (F := Ideal) x0 x1 x2 x3 x4 x5 (ix3 b s j) := by
  pointwise [val_main_v55]

/-- The token of a batch element's row. -/
def token (b : Fin 32) (s : Fin 2048) : Fin 65536 := ⟨b.val * 2048 + s.val, by omega⟩

/-- The router's scores. -/
theorem score_apply (x : Fin 64) : val_main_v56 (F := Ideal) x0 x1 x2 x3 x4 x5 x6 (ix2 x (token b s))
    = score (fun k => val_main_v45 (F := Ideal) x0 x1 x2 x3 x4 x5 (ix3 b s k)) (fun k => x6 (ix3 0 k x)) := by
  have e : val_main_v48 (F := Ideal) x0 x1 x2 x3 x4 x5 x6 (ix2 (token b s) x)
      = ∑ k, x6 (ix3 0 k x) * val_main_v45 (F := Ideal) x0 x1 x2 x3 x4 x5 (ix3 b s k) := by
    rw [val_main_v48_apply]
    refine Finset.sum_congr rfl fun k _ => ?_
    have el : idx_main_v46 (lidx_main_v48 (ix2 (token b s) x) k) = ix3 b s k := by
      funext a
      match a with
      | ⟨0, _⟩ => exact Fin.ext (show ((b.val * 2048 + s.val) * 1024 + k.val) / 2097152 = b.val by omega)
      | ⟨1, _⟩ => exact Fin.ext (show ((b.val * 2048 + s.val) * 1024 + k.val) / 1024 % 2048 = s.val by omega)
      | ⟨2, _⟩ => exact Fin.ext (show ((b.val * 2048 + s.val) * 1024 + k.val) % 1024 = k.val by omega)
    have er : ridx_main_v48 (ix2 (token b s) x) k = ix2 k x := by funext a; match a with | ⟨0, _⟩ => rfl | ⟨1, _⟩ => rfl
    rw [er, val_main_v46_apply, el, mul_comm]
    have e1 : val_main_v47 (F := Ideal) x6 (ix2 k x) = x6 (ix3 0 k x) := by pointwise [val_main_v47]
    rw [e1]
  unfold score
  rw [← e]
  pointwise [val_main_v56, val_main_v54, val_main_v53, val_main_v52, val_main_v51, val_main_v50, val_main_v49, val_main_cst_6, val_main_cst_7]
  rfl

end Cert.Reference3Ideal.Outproj

end
-- ==== Proof.OutprojPay.lean ====
/- The output projection, one block: each entry of the blocks the body stores, from the blocks it reads. -/
module

public import proofs.«01_k».proof.Proof.Gen.Kernel3Ideal.Skeleton
public import proofs.«01_k».proof.Proof.OutprojRow

@[expose] public section

set_option maxRecDepth 16384

noncomputable section

namespace Cert.Kernel3Ideal.Outproj

open Idealize.ShloMosaic Idealize.ShloMosaic.TcCoe
open Cert.Kernel3Ideal Cert.Kernel3Ideal.Gen Cert.Outproj

section

variable (v0 : Vec Ideal S1x1024x1024 .bf16) (v2 : Vec Ideal S1024x1024 .bf16) (v5 : Vec Ideal S1x1024x1024 .f32) (v7 : Vec Ideal S1x1x1024 .f32)
  (v19 : Vec Ideal S1x1024 .f32)

/-- An entry of the residual stream's block. -/
theorem pay4_apply (r j : Fin 1024) : k0_pay4 v0 v2 v5 v7 v19 (ix2 r j)
    = stream (fun k => v0 (ix3 0 r k)) (fun k => v5 (ix3 0 r k)) (fun k => v7 (ix3 0 0 k)) (fun k => v19 (ix2 0 k)) (fun k j => v2 (ix2 k j)) j := by
  pointwise [k0_pay4]
  rfl

/-- A row's mean square. -/
theorem pay6_apply (r : Fin 1024) : k0_pay6 v0 v2 v5 v7 v19 (ix2 r 0) = meanSquare (fun j => k0_pay4 v0 v2 v5 v7 v19 (ix2 r j)) := by
  unfold k0_pay6
  generalize k0_pay4 v0 v2 v5 v7 v19 = y
  pointwise []
  rfl

end

section

variable (y : FVec Ideal S1024x1024 .f32) (q : FVec Ideal S1024x1 .f32) (e : EReal) (g : Vec Ideal S1x1024 .f32) (sc sh : Vec Ideal S1x1x1024 .f32)

/-- An entry of the modulated block. -/
theorem pay1_apply (r j : Fin 1024) : k0_pay1 (F := Ideal) y q e g sc sh (ix2 r j)
    = y (ix2 r j) * Ideal.rsqrt (q (ix2 r 0) + e) * g (ix2 0 j) * (Ideal.ofBits .f32 0x3F800000#32 + sc (ix3 0 0 j)) + sh (ix3 0 0 j) := by
  pointwise [k0_pay1]

/-- An entry of the scores' block. -/
theorem pay3_apply (w : Vec Ideal S64x1024 .bf16) (x : Fin 64) (r : Fin 1024) : k0_pay3 (F := Ideal) y q e g sc sh w (ix2 x r)
    = score (fun k => k0_pay1 (F := Ideal) y q e g sc sh (ix2 r k)) (fun k => w (ix2 x k)) := by
  unfold k0_pay3
  generalize k0_pay1 (F := Ideal) y q e g sc sh = h
  pointwise []
  rfl

end

end Cert.Kernel3Ideal.Outproj

end
-- ==== Proof.OutprojValue.lean ====
/- The output projection, the whole run: the block each window holds at each grid point, and so the three result arrays, entry
   by entry, from the arguments. -/
module

public import proofs.«01_k».proof.Proof.Gen.Kernel3Ideal.Value
public import proofs.«01_k».proof.Proof.OutprojPay
public import Idealize.ShloMosaic.Lib.Pointwise
public import Idealize.ShloMosaic.Lib.StableHlo.Run
public import Idealize.ShloMosaic.Lib.Tactic
public import Idealize.ShloMosaic.Lib.Pipeline.ValueKit.Tiles

@[expose] public section

set_option maxRecDepth 16384

noncomputable section

namespace Cert.Kernel3Ideal.Outproj

open Idealize.ShloMosaic Idealize.ShloMosaic.TcCoe Idealize.SL.Sem
open Cert.Kernel3Ideal Cert.Kernel3Ideal.Gen Cert.Outproj

/-! ## The blocks that the body stores, from those it reads -/

section

variable (x0 : Vec Ideal S1x1024x1024 .bf16) (x1 : Vec Ideal S1x1024x1024 .f32) (x2 : Vec Ideal S1x6x1024 .f32)
  (x3 : Vec Ideal S1024x1024 .bf16) (x4 x5 : Vec Ideal S1x1024 .f32) (x6 : Vec Ideal S64x1024 .bf16)

theorem hz3 : (![0, 0, 0] : Fin 3 → ℕ) = fun _ => 0 := funext fun a => by fin_cases a <;> rfl

theorem hz2 : (![0, 0] : Fin 2 → ℕ) = fun _ => 0 := funext fun a => by fin_cases a <;> rfl

/-- One of the six rows of a modulation block. -/
theorem ld_mod (o : ℕ) (h : o < 6) (inb) (k : Fin 1024) :
    View.ld x2 (Rect.unit (s := S1x6x1024) ![0, o, 0] S1x1x1024.size inb) (ix3 0 0 k) = x2 (ix3 0 ⟨o, h⟩ k) := by
  refine View.ld_unit_apply_of _ _ _ _ _ _ fun a => ?_
  match a with
  | ⟨0, _⟩ => rfl
  | ⟨1, _⟩ => rfl
  | ⟨2, _⟩ => exact (Nat.zero_add _).symm

/-- A row of the stream, from the blocks. -/
def rowOf (r j : Fin 1024) : EReal :=
  stream (fun k => x0 (ix3 0 r k)) (fun k => x1 (ix3 0 r k)) (fun k => x2 (ix3 0 2 k)) (fun k => x4 (ix2 0 k)) (fun k j => x3 (ix2 k j)) j

/-- A row of the modulated stream, from the blocks. -/
def modOf (r j : Fin 1024) : EReal :=
  modulated (rowOf x0 x1 x2 x3 x4 r) (fun k => x2 (ix3 0 4 k)) (fun k => x2 (ix3 0 3 k)) (fun k => x5 (ix2 0 k)) j

theorem pay7_apply (r j : Fin 1024) : k0_pay7 x0 x1 x2 x3 x4 x5 x6 (ix2 r j) = rowOf x0 x1 x2 x3 x4 r j := by
  unfold k0_pay7
  rw [View.ld_unit_zero (S := S1x1024x1024) hz3, View.ld_unit_zero (S := S1x1024x1024) hz3, View.ld_unit_zero (S := S1024x1024) hz2,
    View.ld_unit_zero (S := S1x1024) hz2, pay4_apply]
  have e := funext (ld_mod x2 2 (by decide) inb_S1x6x1024_S1x1x1024_0_2_0)
  unfold rowOf
  rw [e]
  rfl

theorem pay8_apply (r : Fin 1024) : k0_pay8 x0 x1 x2 x3 x4 x5 x6 (ix2 r 0) = meanSquare (rowOf x0 x1 x2 x3 x4 r) := by
  unfold k0_pay8
  rw [pay6_apply]
  exact congrArg meanSquare (funext fun j => pay7_apply x0 x1 x2 x3 x4 x5 x6 r j)

/-- The modulated block, before it is given its unit axis. -/
def modBlock : FVec Ideal S1024x1024 .f32 :=
  k0_pay1 (F := Ideal) (k0_pay7 x0 x1 x2 x3 x4 x5 x6) (k0_pay8 x0 x1 x2 x3 x4 x5 x6) (Scalar.ofBits .f32 0x358637BD#32) (View.ld x5 r0_3)
    (View.ld x2 r0_4) (View.ld x2 r0_5)

theorem modBlock_apply (r j : Fin 1024) : modBlock x0 x1 x2 x3 x4 x5 x6 (ix2 r j) = modOf x0 x1 x2 x3 x4 x5 r j := by
  unfold modBlock
  rw [pay1_apply, pay7_apply, pay8_apply, View.ld_unit_zero (S := S1x1024) hz2, ld_mod x2 4 (by decide), ld_mod x2 3 (by decide)]
  rfl

theorem out7_apply (r j : Fin 1024) : out0_7 x0 x1 x2 x3 x4 x5 x6 (ix3 0 r j) = rowOf x0 x1 x2 x3 x4 r j := by
  unfold out0_7
  rw [View.canon_unit_zero (S := S1x1024x1024) hz3]
  refine Eq.trans ?_ (pay7_apply x0 x1 x2 x3 x4 x5 x6 r j)
  unfold k0_pay5 k0_pay7
  generalize k0_pay4 (View.ld x0 r0_0) (View.ld x3 r0_1) (View.ld x1 r0_0) (View.ld x2 r0_2) (View.ld x4 r0_3) = y
  pointwise []

theorem out8_apply (r j : Fin 1024) : out0_8 x0 x1 x2 x3 x4 x5 x6 (ix3 0 r j) = modOf x0 x1 x2 x3 x4 x5 r j := by
  unfold out0_8
  rw [View.canon_unit_zero (S := S1x1024x1024) hz3]
  refine Eq.trans ?_ (modBlock_apply x0 x1 x2 x3 x4 x5 x6 r j)
  unfold k0_pay2 modBlock
  generalize k0_pay1 (F := Ideal) (k0_pay7 x0 x1 x2 x3 x4 x5 x6) (k0_pay8 x0 x1 x2 x3 x4 x5 x6) (Scalar.ofBits .f32 0x358637BD#32) (View.ld x5 r0_3)
    (View.ld x2 r0_4) (View.ld x2 r0_5) = y
  pointwise []

theorem out9_apply (x : Fin 64) (r : Fin 1024) : out0_9 x0 x1 x2 x3 x4 x5 x6 (ix2 x r)
    = score (modOf x0 x1 x2 x3 x4 x5 r) (fun k => x6 (ix2 x k)) := by
  unfold out0_9
  rw [View.canon_unit_zero (S := S64x1024) hz2, View.ld_unit_zero (S := S64x1024) hz2, pay3_apply]
  exact congrArg (score · _) (funext fun k => modBlock_apply x0 x1 x2 x3 x4 x5 x6 r k)

end

/-! ## The blocks at a grid point -/

variable (m : (ℓ : Loc nD τ sig) → Buf (Elt Ideal) ℓ) (c : Dev nD)

/-- The batch element of a grid point. -/
def bat (t : Fin cfg0.N) : Fin 32 := ⟨t.val / 2, by have h := lt_of_lt_of_eq t.isLt (show cfg0.N = 64 from N_0); omega⟩

/-- The row of the arrays that row `r` of a grid point's blocks is. -/
def row (t : Fin cfg0.N) (r : Fin 1024) : Fin 2048 := ⟨1024 * (t.val % 2) + r.val, by omega⟩

/-- The token that column `r` of a grid point's scores is. -/
def tok (t : Fin cfg0.N) (r : Fin 1024) : Fin 65536 := ⟨1024 * t.val + r.val, by have h := lt_of_lt_of_eq t.isLt (show cfg0.N = 64 from N_0); omega⟩

theorem index0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, win0_0.index t (0 : Fin 3) = t.val / 2 ∧ win0_0.index t (1 : Fin 3) = t.val % 2 ∧ win0_0.index t (2 : Fin 3) = 0)

theorem index1 : ∀ t : Fin cfg0.N, win0_1.index t (0 : Fin 3) = t.val / 2 ∧ win0_1.index t (1 : Fin 3) = t.val % 2 ∧ win0_1.index t (2 : Fin 3) = 0 :=
  (by decide +kernel : ∀ t : Fin grid0.N, win0_1.index t (0 : Fin 3) = t.val / 2 ∧ win0_1.index t (1 : Fin 3) = t.val % 2 ∧ win0_1.index t (2 : Fin 3) = 0)

theorem index2 : ∀ t : Fin cfg0.N, win0_2.index t (0 : Fin 3) = t.val / 2 ∧ win0_2.index t (1 : Fin 3) = 0 ∧ win0_2.index t (2 : Fin 3) = 0 :=
  (by decide +kernel : ∀ t : Fin grid0.N, win0_2.index t (0 : Fin 3) = t.val / 2 ∧ win0_2.index t (1 : Fin 3) = 0 ∧ win0_2.index t (2 : Fin 3) = 0)

theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem index7 : ∀ t : Fin cfg0.N, win0_7.index t (0 : Fin 3) = t.val / 2 ∧ win0_7.index t (1 : Fin 3) = t.val % 2 ∧ win0_7.index t (2 : Fin 3) = 0 :=
  (by decide +kernel : ∀ t : Fin grid0.N, win0_7.index t (0 : Fin 3) = t.val / 2 ∧ win0_7.index t (1 : Fin 3) = t.val % 2 ∧ win0_7.index t (2 : Fin 3) = 0)

theorem index8 : ∀ t : Fin cfg0.N, win0_8.index t (0 : Fin 3) = t.val / 2 ∧ win0_8.index t (1 : Fin 3) = t.val % 2 ∧ win0_8.index t (2 : Fin 3) = 0 :=
  (by decide +kernel : ∀ t : Fin grid0.N, win0_8.index t (0 : Fin 3) = t.val / 2 ∧ win0_8.index t (1 : Fin 3) = t.val % 2 ∧ win0_8.index t (2 : Fin 3) = 0)

theorem index9 : ∀ t : Fin cfg0.N, win0_9.index t (0 : Fin 2) = 0 ∧ win0_9.index t (1 : Fin 2) = t.val :=
  (by decide +kernel : ∀ t : Fin grid0.N, win0_9.index t (0 : Fin 2) = 0 ∧ win0_9.index t (1 : Fin 2) = t.val)

/-- A grid point's block of the attention's result. -/
theorem iblk0 (t : Fin cfg0.N) (r l : Fin 1024) :
    iblk m c 0 t (ix3 0 r l) = m ((c : Thread nD τ).loc main_arg0) (ix3 (bat t) (row t r) l) := by
  show V m c main_arg0 (((cfg0.win 0).blk t).view.emb (ix3 0 r l)) = _
  rw [V_main_arg0]
  obtain ⟨e0, e1, e2⟩ := index0 t
  refine congrArg _ (funext fun a => ?_)
  match a with
  | ⟨0, _⟩ => exact Fin.ext (show win0_0.index t (0 : Fin 3) * 1 + 1 * 0 = t.val / 2 by omega)
  | ⟨1, _⟩ => exact Fin.ext (show win0_0.index t (1 : Fin 3) * 1024 + 1 * r.val = 1024 * (t.val % 2) + r.val by omega)
  | ⟨2, _⟩ => exact Fin.ext (show win0_0.index t (2 : Fin 3) * 1024 + 1 * l.val = l.val by omega)

/-- A grid point's block of the input. -/
theorem iblk1 (t : Fin cfg0.N) (r l : Fin 1024) :
    iblk m c 1 t (ix3 0 r l) = m ((c : Thread nD τ).loc main_arg1) (ix3 (bat t) (row t r) l) := by
  show V m c main_arg1 (((cfg0.win 1).blk t).view.emb (ix3 0 r l)) = _
  rw [V_main_arg1]
  obtain ⟨e0, e1, e2⟩ := index1 t
  refine congrArg _ (funext fun a => ?_)
  match a with
  | ⟨0, _⟩ => exact Fin.ext (show win0_1.index t (0 : Fin 3) * 1 + 1 * 0 = t.val / 2 by omega)
  | ⟨1, _⟩ => exact Fin.ext (show win0_1.index t (1 : Fin 3) * 1024 + 1 * r.val = 1024 * (t.val % 2) + r.val by omega)
  | ⟨2, _⟩ => exact Fin.ext (show win0_1.index t (2 : Fin 3) * 1024 + 1 * l.val = l.val by omega)

/-- A grid point's block of the modulation. -/
theorem iblk2 (t : Fin cfg0.N) (o : Fin 6) (l : Fin 1024) :
    iblk m c 2 t (ix3 0 o l) = m ((c : Thread nD τ).loc main_arg2) (ix3 (bat t) o l) := by
  show V m c main_arg2 (((cfg0.win 2).blk t).view.emb (ix3 0 o l)) = _
  rw [V_main_arg2]
  obtain ⟨e0, e1, e2⟩ := index2 t
  refine congrArg _ (funext fun a => ?_)
  match a with
  | ⟨0, _⟩ => exact Fin.ext (show win0_2.index t (0 : Fin 3) * 1 + 1 * 0 = t.val / 2 by omega)
  | ⟨1, _⟩ => exact Fin.ext (show win0_2.index t (1 : Fin 3) * 6 + 1 * o.val = o.val by omega)
  | ⟨2, _⟩ => exact Fin.ext (show win0_2.index t (2 : Fin 3) * 1024 + 1 * l.val = l.val by omega)

/-- The weights of the projection, whole at every point. -/
theorem iblk3 (t : Fin cfg0.N) (r : Fin 1024) (l : Fin 1024) : iblk m c 3 t (ix2 r l) = V m c main_v1 (ix2 r l) := by
  show V m c main_v1 (((cfg0.win 3).blk t).view.emb (ix2 r l)) = _
  obtain ⟨e0, e1⟩ := index3 t
  refine congrArg _ (funext fun a => ?_)
  match a with
  | ⟨0, _⟩ => exact Fin.ext (show win0_3.index t (0 : Fin 2) * 1024 + 1 * r.val = r.val by omega)
  | ⟨1, _⟩ => exact Fin.ext (show win0_3.index t (1 : Fin 2) * 1024 + 1 * l.val = l.val by omega)

/-- The projection's gains, whole at every point. -/
theorem iblk4 (t : Fin cfg0.N) (r : Fin 1) (l : Fin 1024) : iblk m c 4 t (ix2 r l) = V m c main_v3 (ix2 r l) := by
  show V m c main_v3 (((cfg0.win 4).blk t).view.emb (ix2 r l)) = _
  obtain ⟨e0, e1⟩ := index4 t
  refine congrArg _ (funext fun a => ?_)
  match a with
  | ⟨0, _⟩ => exact Fin.ext (show win0_4.index t (0 : Fin 2) * 1 + 1 * r.val = r.val by omega)
  | ⟨1, _⟩ => exact Fin.ext (show win0_4.index t (1 : Fin 2) * 1024 + 1 * l.val = l.val by omega)

/-- The stream's gains, whole at every point. -/
theorem iblk5 (t : Fin cfg0.N) (r : Fin 1) (l : Fin 1024) : iblk m c 5 t (ix2 r l) = V m c main_v5 (ix2 r l) := by
  show V m c main_v5 (((cfg0.win 5).blk t).view.emb (ix2 r l)) = _
  obtain ⟨e0, e1⟩ := index5 t
  refine congrArg _ (funext fun a => ?_)
  match a with
  | ⟨0, _⟩ => exact Fin.ext (show win0_5.index t (0 : Fin 2) * 1 + 1 * r.val = r.val by omega)
  | ⟨1, _⟩ => exact Fin.ext (show win0_5.index t (1 : Fin 2) * 1024 + 1 * l.val = l.val by omega)

/-- The router's weights, whole at every point. -/
theorem iblk6 (t : Fin cfg0.N) (r : Fin 64) (l : Fin 1024) : iblk m c 6 t (ix2 r l) = V m c main_v8 (ix2 r l) := by
  show V m c main_v8 (((cfg0.win 6).blk t).view.emb (ix2 r l)) = _
  obtain ⟨e0, e1⟩ := index6 t
  refine congrArg _ (funext fun a => ?_)
  match a with
  | ⟨0, _⟩ => exact Fin.ext (show win0_6.index t (0 : Fin 2) * 64 + 1 * r.val = r.val by omega)
  | ⟨1, _⟩ => exact Fin.ext (show win0_6.index t (1 : Fin 2) * 1024 + 1 * l.val = l.val by omega)

/-! ## The weights as the launch passes them on -/

/-- A square matrix of weights as the launch reshapes and rounds it. -/
def square (w : FVec Ideal S1x1024x1024 .f32) : FVec Ideal S1024x1024 .bf16 :=
  truncf .bf16 (shapeCast S1024x1024 w shapeCasts_S1x1024x1024_S1024x1024 : FVec Ideal S1024x1024 .f32) bitsLt_bf16_f32

theorem square_apply (w : FVec Ideal S1x1024x1024 .f32) (k j : Fin 1024) : square w (ix2 k j) = w (ix3 0 k j) := by
  pointwise [square]

theorem V_w (k j : Fin 1024) : V m c main_v1 (ix2 k j) = m ((c : Thread nD τ).loc main_arg3) (ix3 0 k j) := by
  refine Eq.trans (congrFun (?_ : V m c main_v1 = square (m ((c : Thread nD τ).loc main_arg3))) (ix2 k j)) (square_apply _ k j)
  unfold_abbrev_sides
  after_results
  rfl

theorem V_g (l : Fin 1024) : V m c main_v3 (ix2 0 l) = m ((c : Thread nD τ).loc main_arg4) (ix2 0 l) := by
  unfold_abbrev_sides
  after_results
  show (broadcastInDim S1x1024 ![1] bcast_S1024_S1x1024_1 (shapeCast S1024 (m ((c : Thread nD τ).loc main_arg4) : Vec Ideal S1x1024 .f32) shapeCasts_S1x1024_S1024 : Vec Ideal S1024 .f32) : Vec Ideal S1x1024 .f32) (ix2 0 l) = (m ((c : Thread nD τ).loc main_arg4) : Vec Ideal S1x1024 .f32) (ix2 0 l)
  generalize (m ((c : Thread nD τ).loc main_arg4) : Vec Ideal S1x1024 .f32) = w
  pointwise []

theorem V_h (l : Fin 1024) : V m c main_v5 (ix2 0 l) = m ((c : Thread nD τ).loc main_arg5) (ix2 0 l) := by
  unfold_abbrev_sides
  after_results
  show (broadcastInDim S1x1024 ![1] bcast_S1024_S1x1024_1 (shapeCast S1024 (m ((c : Thread nD τ).loc main_arg5) : Vec Ideal S1x1024 .f32) shapeCasts_S1x1024_S1024 : Vec Ideal S1024 .f32) : Vec Ideal S1x1024 .f32) (ix2 0 l) = (m ((c : Thread nD τ).loc main_arg5) : Vec Ideal S1x1024 .f32) (ix2 0 l)
  generalize (m ((c : Thread nD τ).loc main_arg5) : Vec Ideal S1x1024 .f32) = w
  pointwise []

/-- The router's weights as the launch reshapes, transposes and rounds them. -/
def turned (w : FVec Ideal S1x1024x64 .f32) : FVec Ideal S64x1024 .bf16 :=
  truncf .bf16 (transpose S64x1024 [1, 0] (shapeCast S1024x64 w shapeCasts_S1x1024x64_S1024x64 : FVec Ideal S1024x64 .f32)
    transposes_S1024x64_S64x1024_1_0 : FVec Ideal S64x1024 .f32) bitsLt_bf16_f32

theorem turned_apply (w : FVec Ideal S1x1024x64 .f32) (x : Fin 64) (k : Fin 1024) : turned w (ix2 x k) = w (ix3 0 k x) := by
  pointwise [turned]

theorem V_router (x : Fin 64) (k : Fin 1024) : V m c main_v8 (ix2 x k) = m ((c : Thread nD τ).loc main_arg6) (ix3 0 k x) := by
  refine Eq.trans (congrFun (?_ : V m c main_v8 = turned (m ((c : Thread nD τ).loc main_arg6))) (ix2 x k)) (turned_apply _ x k)
  unfold_abbrev_sides
  after_results
  rfl

/-! ## The rows from the arguments -/

/-- A row of the stream, from the arguments. -/
def streamAt (b : Fin 32) (s : Fin 2048) (j : Fin 1024) : EReal :=
  stream (fun k => m ((c : Thread nD τ).loc main_arg0) (ix3 b s k)) (fun k => m ((c : Thread nD τ).loc main_arg1) (ix3 b s k))
    (fun k => m ((c : Thread nD τ).loc main_arg2) (ix3 b 2 k)) (fun k => m ((c : Thread nD τ).loc main_arg4) (ix2 0 k))
    (fun k j => m ((c : Thread nD τ).loc main_arg3) (ix3 0 k j)) j

/-- A row of the modulated stream, from the arguments. -/
def modAt (b : Fin 32) (s : Fin 2048) (j : Fin 1024) : EReal :=
  modulated (streamAt m c b s) (fun k => m ((c : Thread nD τ).loc main_arg2) (ix3 b 4 k)) (fun k => m ((c : Thread nD τ).loc main_arg2) (ix3 b 3 k))
    (fun k => m ((c : Thread nD τ).loc main_arg5) (ix2 0 k)) j

theorem rowOf_eq (t : Fin cfg0.N) (r : Fin 1024) :
    rowOf (iblk m c 0 t) (iblk m c 1 t) (iblk m c 2 t) (iblk m c 3 t) (iblk m c 4 t) r = streamAt m c (bat t) (row t r) := by
  funext j
  unfold rowOf streamAt
  have e0 := fun k => iblk0 m c t r k
  have e1 := fun k => iblk1 m c t r k
  have e2 := fun k => iblk2 m c t 2 k
  have e3 := fun k j => (iblk3 m c t k j).trans (V_w m c k j)
  have e4 := fun k => (iblk4 m c t 0 k).trans (V_g m c k)
  rw [funext e0, funext e1, funext e2, funext fun k => funext (e3 k), funext e4]

theorem modOf_eq (t : Fin cfg0.N) (r : Fin 1024) :
    modOf (iblk m c 0 t) (iblk m c 1 t) (iblk m c 2 t) (iblk m c 3 t) (iblk m c 4 t) (iblk m c 5 t) r = modAt m c (bat t) (row t r) := by
  funext j
  unfold modOf modAt
  have e3 := fun k => iblk2 m c t 3 k
  have e4 := fun k => iblk2 m c t 4 k
  have e5 := fun k => (iblk5 m c t 0 k).trans (V_h m c k)
  rw [rowOf_eq, funext e3, funext e4, funext e5]

/-! ## The result arrays -/

/-- The grid point of a row. -/
def pt (b : Fin 32) (s : Fin 2048) : Fin cfg0.N := ⟨2 * b.val + s.val / 1024, lt_of_lt_of_eq (show _ < 64 by omega) (show 64 = cfg0.N from N_0.symm)⟩

/-- The row within its block. -/
def loc (s : Fin 2048) : Fin 1024 := ⟨s.val % 1024, Nat.mod_lt _ (by decide)⟩

theorem bat_pt (b : Fin 32) (s : Fin 2048) : bat (pt b s) = b := Fin.ext (show (2 * b.val + s.val / 1024) / 2 = b.val by omega)

theorem row_pt (b : Fin 32) (s : Fin 2048) : row (pt b s) (loc s) = s :=
  Fin.ext (show 1024 * ((2 * b.val + s.val / 1024) % 2) + s.val % 1024 = s.val by omega)

theorem emb7 (t : Fin cfg0.N) (r l : Fin 1024) :
    ((((cfg0.win 7).blk t).view.emb (ix3 0 r l)) : (⟨3, ![32, 2048, 1024]⟩ : Shape).Idx) = ix3 (bat t) (row t r) l := by
  obtain ⟨e0, e1, e2⟩ := index7 t
  funext a
  match a with
  | ⟨0, _⟩ => exact Fin.ext (show win0_7.index t (0 : Fin 3) * 1 + 1 * 0 = t.val / 2 by omega)
  | ⟨1, _⟩ => exact Fin.ext (show win0_7.index t (1 : Fin 3) * 1024 + 1 * r.val = 1024 * (t.val % 2) + r.val by omega)
  | ⟨2, _⟩ => exact Fin.ext (show win0_7.index t (2 : Fin 3) * 1024 + 1 * l.val = l.val by omega)

/-- The new residual stream, entry by entry. -/
theorem arr7_apply (b : Fin 32) (s : Fin 2048) (j : Fin 1024) :
    ((dats m 0 c).arrAt 7 cfg0.N : (⟨3, ![32, 2048, 1024]⟩ : Shape).Idx → EReal) (ix3 b s j) = streamAt m c b s j := by
  have e := congrFun ((Cert.Kernel3Ideal.Value.blocks7 m c (pt b s) (flush0_7 _)).trans (Cert.Kernel3Ideal.Value.flushed7 m c (pt b s))) (ix3 0 (loc s) j)
  have ei : ((((cfg0.win 7).blk (pt b s)).view.emb (ix3 0 (loc s) j)) : (⟨3, ![32, 2048, 1024]⟩ : Shape).Idx) = ix3 b s j := by
    rw [emb7, bat_pt, row_pt]
  refine (congrArg ((dats m 0 c).arrAt 7 cfg0.N : (⟨3, ![32, 2048, 1024]⟩ : Shape).Idx → EReal) ei).symm.trans (Eq.trans e ?_)
  refine (out7_apply _ _ _ _ _ _ _ (loc s) j).trans ?_
  rw [rowOf_eq, bat_pt, row_pt]

theorem emb8 (t : Fin cfg0.N) (r l : Fin 1024) :
    ((((cfg0.win 8).blk t).view.emb (ix3 0 r l)) : (⟨3, ![32, 2048, 1024]⟩ : Shape).Idx) = ix3 (bat t) (row t r) l := by
  obtain ⟨e0, e1, e2⟩ := index8 t
  funext a
  match a with
  | ⟨0, _⟩ => exact Fin.ext (show win0_8.index t (0 : Fin 3) * 1 + 1 * 0 = t.val / 2 by omega)
  | ⟨1, _⟩ => exact Fin.ext (show win0_8.index t (1 : Fin 3) * 1024 + 1 * r.val = 1024 * (t.val % 2) + r.val by omega)
  | ⟨2, _⟩ => exact Fin.ext (show win0_8.index t (2 : Fin 3) * 1024 + 1 * l.val = l.val by omega)

/-- The modulated stream, entry by entry. -/
theorem arr8_apply (b : Fin 32) (s : Fin 2048) (j : Fin 1024) :
    ((dats m 0 c).arrAt 8 cfg0.N : (⟨3, ![32, 2048, 1024]⟩ : Shape).Idx → EReal) (ix3 b s j) = modAt m c b s j := by
  have e := congrFun ((Cert.Kernel3Ideal.Value.blocks8 m c (pt b s) (flush0_8 _)).trans (Cert.Kernel3Ideal.Value.flushed8 m c (pt b s))) (ix3 0 (loc s) j)
  have ei : ((((cfg0.win 8).blk (pt b s)).view.emb (ix3 0 (loc s) j)) : (⟨3, ![32, 2048, 1024]⟩ : Shape).Idx) = ix3 b s j := by
    rw [emb8, bat_pt, row_pt]
  refine (congrArg ((dats m 0 c).arrAt 8 cfg0.N : (⟨3, ![32, 2048, 1024]⟩ : Shape).Idx → EReal) ei).symm.trans (Eq.trans e ?_)
  refine (out8_apply _ _ _ _ _ _ _ (loc s) j).trans ?_
  rw [modOf_eq, bat_pt, row_pt]

/-- The token of a batch element's row. -/
theorem tok_pt (b : Fin 32) (s : Fin 2048) (h : b.val * 2048 + s.val < 65536) : tok (pt b s) (loc s) = ⟨b.val * 2048 + s.val, h⟩ :=
  Fin.ext (show 1024 * (2 * b.val + s.val / 1024) + s.val % 1024 = b.val * 2048 + s.val by omega)

theorem emb9 (t : Fin cfg0.N) (x : Fin 64) (r : Fin 1024) :
    ((((cfg0.win 9).blk t).view.emb (ix2 x r)) : (⟨2, ![64, 65536]⟩ : Shape).Idx) = ix2 x (tok t r) := by
  obtain ⟨e0, e1⟩ := index9 t
  funext a
  match a with
  | ⟨0, _⟩ => exact Fin.ext (show win0_9.index t (0 : Fin 2) * 64 + 1 * x.val = x.val by omega)
  | ⟨1, _⟩ => exact Fin.ext (show win0_9.index t (1 : Fin 2) * 1024 + 1 * r.val = 1024 * t.val + r.val by omega)

/-- The router's scores, entry by entry. -/
theorem arr9_apply (b : Fin 32) (s : Fin 2048) (x : Fin 64) (h : b.val * 2048 + s.val < 65536) :
    ((dats m 0 c).arrAt 9 cfg0.N : (⟨2, ![64, 65536]⟩ : Shape).Idx → EReal) (ix2 x ⟨b.val * 2048 + s.val, h⟩)
      = score (modAt m c b s) (fun k => m ((c : Thread nD τ).loc main_arg6) (ix3 0 k x)) := by
  have e := congrFun ((Cert.Kernel3Ideal.Value.blocks9 m c (pt b s) (flush0_9 _)).trans (Cert.Kernel3Ideal.Value.flushed9 m c (pt b s))) (ix2 x (loc s))
  have ei : ((((cfg0.win 9).blk (pt b s)).view.emb (ix2 x (loc s))) : (⟨2, ![64, 65536]⟩ : Shape).Idx) = ix2 x ⟨b.val * 2048 + s.val, h⟩ := by
    rw [emb9, tok_pt b s h]
  refine (congrArg ((dats m 0 c).arrAt 9 cfg0.N : (⟨2, ![64, 65536]⟩ : Shape).Idx → EReal) ei).symm.trans (Eq.trans e ?_)
  refine (out9_apply _ _ _ _ _ _ _ x (loc s)).trans ?_
  have e6 := fun k => (iblk6 m c (pt b s) x k).trans (V_router m c x k)
  rw [modOf_eq, bat_pt, row_pt, funext e6]

end Cert.Kernel3Ideal.Outproj

end
-- ==== Proof.OutprojEquation.lean ====
/- The output projection: that the kernel's run and the reference's leave the same results. -/
module

public import proofs.«01_k».proof.Defs
public import proofs.«01_k».proof.Proof.Gen.Reference3Ideal.Run
public import proofs.«01_k».proof.Proof.OutprojRef
public import proofs.«01_k».proof.Proof.OutprojValue
public import Idealize.ShloMosaic.Adequacy
public import Idealize.ShloMosaic.Init
public import Idealize.ShloMosaic.Lib.Quiescent

@[expose] public section

set_option maxRecDepth 16384

noncomputable section

namespace Cert.Outproj

open Idealize.ShloMosaic Idealize.ShloMosaic.TcCoe Idealize.SL.Sem
open Cert.Kernel3Ideal.Outproj (streamAt modAt arr7_apply arr8_apply arr9_apply)
open Cert.Reference3Ideal.Read (val_main_v25 val_main_v45 val_main_v55 val_main_v56)
open Cert.Reference3Ideal.Outproj (stream_apply mod_apply cast_apply score_apply token)

/-- The reference ends, leaves its arguments unchanged, and holds no semaphore. -/
theorem frame_Reference3Ideal : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

section

variable (m : (ℓ : Loc Cert.Kernel3Ideal.nD Cert.Kernel3Ideal.τ Cert.Kernel3Ideal.sig) → Buf (Elt Ideal) ℓ) (c : Dev Cert.Kernel3Ideal.nD)

/-- The reference's residual stream, from the kernel's arguments. -/
theorem stream_eq (b : Fin 32) (s : Fin 2048) (j : Fin 1024) :
    val_main_v25 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)) (ix3 b s j) = streamAt m c b s j := by
  rw [stream_apply]
  rfl

/-- Its modulated stream. -/
theorem mod_eq (b : Fin 32) (s : Fin 2048) (j : Fin 1024) :
    val_main_v45 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5)) (ix3 b s j) = modAt m c b s j := by
  rw [mod_apply]
  have e := fun j => stream_eq m c b s j
  unfold modAt
  rw [funext e]

/-- An index of the activations. -/
theorem index_eq3 (i : (⟨3, ![32, 2048, 1024]⟩ : Shape).Idx) : ∃ (b : Fin 32) (s : Fin 2048) (j : Fin 1024), i = ix3 b s j :=
  ⟨i 0, i 1, i 2, eq_ix3 i⟩

/-- An index of the scores is an expert and a batch element's row. -/
theorem index_eq2 (i : (⟨2, ![64, 65536]⟩ : Shape).Idx) : ∃ (x : Fin 64) (b : Fin 32) (s : Fin 2048), i = ix2 x (token b s) := by
  have h : (i 1).val < 65536 := (i 1).isLt
  refine ⟨i 0, ⟨(i 1).val / 2048, by omega⟩, ⟨(i 1).val % 2048, by omega⟩, ?_⟩
  funext a
  match a with
  | ⟨0, _⟩ => rfl
  | ⟨1, _⟩ => exact Fin.ext (show (i 1).val = (i 1).val / 2048 * 2048 + (i 1).val % 2048 by omega)

/-- The first result, whole. -/
theorem same_stream : val_main_v25 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
    = (Cert.Kernel3Ideal.Gen.dats m 0 c).arrAt 7 Cert.Kernel3Ideal.cfg0.N := by
  funext i
  obtain ⟨b, s, j, rfl⟩ := index_eq3 i
  exact (stream_eq m c b s j).trans (arr7_apply m c b s j).symm

/-- The second. -/
theorem same_mod : val_main_v55 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
    = (Cert.Kernel3Ideal.Gen.dats m 0 c).arrAt 8 Cert.Kernel3Ideal.cfg0.N := by
  funext i
  obtain ⟨b, s, j, rfl⟩ := index_eq3 i
  exact (cast_apply _ _ _ _ _ _ b s j).trans ((mod_eq m c b s j).trans (arr8_apply m c b s j).symm)

/-- The third. -/
theorem same_scores : val_main_v56 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
    = (Cert.Kernel3Ideal.Gen.dats m 0 c).arrAt 9 Cert.Kernel3Ideal.cfg0.N := by
  funext i
  obtain ⟨x, b, s, rfl⟩ := index_eq2 i
  refine (score_apply _ _ _ _ _ _ _ b s x).trans (Eq.trans ?_ (arr9_apply m c b s x (by omega)).symm)
  have e := fun j => mod_eq m c b s j
  rw [funext e]

end

/-- The kernel and the reference leave the same three results. -/
theorem algebraic : Cert.algebraic_Kernel3Ideal_Reference3Ideal := by
  intro m ρ m' ρ' _ hagree
  refine ⟨_, _, _, Cert.Kernel3Ideal.Value.run_blocks (F := Ideal) m ρ, ?_⟩
  refine (θ_run Cert.Reference3Ideal.defs _ _).mono (fun _ h c => ⟨?_, ?_, ?_, (h c).2.2.2⟩) (Cert.Reference3Ideal.Value.run (F := Ideal) m' ρ')
  · obtain ⟨h0, h1, h2, h3, h4, h5, h6⟩ := hagree c
    refine ((h c).1.trans (Cert.Reference3Ideal.Read.val_main_v25_eq _ _ _ _ _)).trans ?_
    rw [h0, h1, h2, h3, h4]
    exact same_stream m c
  · obtain ⟨h0, h1, h2, h3, h4, h5, h6⟩ := hagree c
    refine ((h c).2.1.trans (Cert.Reference3Ideal.Read.val_main_v55_eq m' c)).trans ?_
    rw [h0, h1, h2, h3, h4, h5]
    exact same_mod m c
  · obtain ⟨h0, h1, h2, h3, h4, h5, h6⟩ := hagree c
    refine ((h c).2.2.1.trans (Cert.Reference3Ideal.Read.val_main_v56_eq m' c)).trans ?_
    rw [h0, h1, h2, h3, h4, h5, h6]
    exact same_scores m c

end Cert.Outproj

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.ExpertsEquation
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.OutprojEquation
public import Idealize.ShloMosaic.Adequacy
public import Idealize.ShloMosaic.Init
public import Idealize.ShloMosaic.Lib.Quiescent

@[expose] public section

noncomputable section

namespace Cert.Proof

open Idealize.ShloMosaic Idealize.SL.Sem

/-- The side conditions of the precondition's operations. -/
instance preFacts : Cert.Pre_finite_queries_and_keys.Facts where
  bitsLt_bf16_f32 := by decide
  bcast_S_S32x2048x512 := by decide
  bcast_S_S32x2304x512 := by decide
  bcast_S_S32x2304x128 := by decide

/-- The reference ends, leaves its arguments unchanged, and holds no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite queries and keys the kernel and the reference leave the same result. -/
theorem algebraic : algebraic_KernelIdeal_ReferenceIdeal_pre_finite_queries_and_keys := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6, h7, h8, h9, h10⟩ := hagree c
  refine ((h c).1.trans (Cert.ReferenceIdeal.Read.val_main_v114_eq m' c)).trans ?_
  rw [h0, h1, h2, h3, h4, h5, h6, h7, h8, h9, h10]
  exact same_args m hpre c

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, preFacts, Cert.Pre_used_blocks.Gen.facts,
  Cert.On_rows_used.Gen.facts,
  fun m ρ _ => Cert.Kernel.Gen.frame m ρ, fun m ρ _ => Cert.KernelIdeal.Gen.frame m ρ,
  fun m ρ _ => Cert.KernelIdeal.Gen.frame m ρ, quiescent_ReferenceIdeal,
  fun m ρ _ => quiescent_ReferenceIdeal m ρ trivial,
  Cert.Experts.frame_Kernel2, Cert.Experts.frame_Kernel2Ideal, Cert.Experts.frame_Reference2Ideal,
  fun m ρ _ => Cert.Experts.frame_Reference2Ideal m ρ trivial,
  fun m ρ _ => Cert.Kernel3.Gen.frame m ρ, fun m ρ _ => Cert.Kernel3Ideal.Gen.frame m ρ, Cert.Outproj.frame_Reference3Ideal,
  (trivial : preserves_Kernel_KernelIdeal), algebraic,
  (trivial : preserves_Kernel2_Kernel2Ideal), Cert.Experts.algebraic,
  (trivial : preserves_Kernel3_Kernel3Ideal), Cert.Outproj.algebraic⟩

end Cert.Proof

end
